-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S4096x512 : Shape := ⟨2, ![4096, 512]⟩
abbrev S8 : Shape := ⟨1, ![8]⟩
abbrev S4 : Shape := ⟨1, ![4]⟩
abbrev S_ : Shape := ⟨0, ![]⟩
abbrev S1 : Shape := ⟨1, ![1]⟩
abbrev S64x512 : Shape := ⟨2, ![64, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .local _ .vmem, ⟨0, _⟩ => ⟨S2048x512, .f32⟩
  | .local _ .vmem, ⟨1, _⟩ => ⟨S4096x512, .f32⟩
  | _, _ => ⟨S2048x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v16 : BitVec 32 := Scalar.muli v2 c8_i32_8
  let v17 : BitVec 32 := Scalar.addi c0_i32 v16
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9 : BitVec 32 := 4#32
  let v18 : BitVec 32 := Scalar.muli v10 c4_i32_9
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v20 : BitVec 32 := Scalar.muli v8 c1_i32_10
  let v21 : BitVec 32 := Scalar.addi v19 v20
  v21.toNat
def k0_dev2 (d0 : Dev nD) : Nat :=
  let c0_i32_13 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_12 : BitVec 32 := 8#32
  let v22 : BitVec 32 := Scalar.muli v11 c8_i32_12
  let v23 : BitVec 32 := Scalar.addi c0_i32_13 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v24 : BitVec 32 := Scalar.muli v5 c4_i32_14
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.muli v8 c1_i32_15
  let v27 : BitVec 32 := Scalar.addi v25 v26
  v27.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v28 : BitVec 32 := Scalar.muli v2 c8_i32_17
  let v29 : BitVec 32 := Scalar.addi c0_i32_18 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_20 : BitVec 32 := 1#32
  let v32 : BitVec 32 := Scalar.muli v14 c1_i32_20
  let v33 : BitVec 32 := Scalar.addi v31 v32
  v33.toNat
def k0_off1 (d0 : Dev nD) (c0_i32_31 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v34 : BitVec 32 := Scalar.muli v5 c2048_i32
  let c2_i32_23 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_23 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v38 : BitVec 32 := Scalar.addi v37 v9
  let c512_i32 : BitVec 32 := 512#32
  let v49 : BitVec 32 := Scalar.muli v38 c512_i32
  let v50 : BitVec 32 := Scalar.addi v49 c0_i32_31
  let v51 : BitVec 32 := Scalar.addi v34 v50
  let c0_i32_38 : BitVec 32 := 0#32
  ![v51.toNat, 0]
def k0_off2 (d0 : Dev nD) (c0_i32_31 : BitVec 32) : Fin 2 → Nat :=
  let c2_i32_23 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_23 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v38 : BitVec 32 := Scalar.addi v37 v9
  let c512_i32 : BitVec 32 := 512#32
  let v49 : BitVec 32 := Scalar.muli v38 c512_i32
  let v50 : BitVec 32 := Scalar.addi v49 c0_i32_31
  let c0_i32_39 : BitVec 32 := 0#32
  ![v50.toNat, 0]
def k0_dev4 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v52 : BitVec 32 := Scalar.muli v2 c8_i32_34
  let v53 : BitVec 32 := Scalar.addi c0_i32_35 v52
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_36 : BitVec 32 := 4#32
  let v54 : BitVec 32 := Scalar.muli v10 c4_i32_36
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v56 : BitVec 32 := Scalar.muli v8 c1_i32_37
  let v57 : BitVec 32 := Scalar.addi v55 v56
  v57.toNat
def k0_dev5 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v67 : BitVec 32 := Scalar.muli v2 c8_i32_43
  let v68 : BitVec 32 := Scalar.addi c0_i32_44 v67
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_45 : BitVec 32 := 4#32
  let v69 : BitVec 32 := Scalar.muli v10 c4_i32_45
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v71 : BitVec 32 := Scalar.muli v8 c1_i32_46
  let v72 : BitVec 32 := Scalar.addi v70 v71
  v72.toNat
def k0_dev6 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v82 : BitVec 32 := Scalar.muli v2 c8_i32_52
  let v83 : BitVec 32 := Scalar.addi c0_i32_53 v82
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_54 : BitVec 32 := 4#32
  let v84 : BitVec 32 := Scalar.muli v10 c4_i32_54
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v86 : BitVec 32 := Scalar.muli v8 c1_i32_55
  let v87 : BitVec 32 := Scalar.addi v85 v86
  v87.toNat
def k0_dev7 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v97 : BitVec 32 := Scalar.muli v2 c8_i32_61
  let v98 : BitVec 32 := Scalar.addi c0_i32_62 v97
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_63 : BitVec 32 := 4#32
  let v99 : BitVec 32 := Scalar.muli v10 c4_i32_63
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v101 : BitVec 32 := Scalar.muli v8 c1_i32_64
  let v102 : BitVec 32 := Scalar.addi v100 v101
  v102.toNat
def k0_dev8 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v112 : BitVec 32 := Scalar.muli v2 c8_i32_70
  let v113 : BitVec 32 := Scalar.addi c0_i32_71 v112
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_72 : BitVec 32 := 4#32
  let v114 : BitVec 32 := Scalar.muli v10 c4_i32_72
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v116 : BitVec 32 := Scalar.muli v8 c1_i32_73
  let v117 : BitVec 32 := Scalar.addi v115 v116
  v117.toNat
def k0_dev9 (d0 : Dev nD) : Nat :=
  let c0_i32_79 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_78 : BitVec 32 := 8#32
  let v127 : BitVec 32 := Scalar.muli v2 c8_i32_78
  let v128 : BitVec 32 := Scalar.addi c0_i32_79 v127
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_80 : BitVec 32 := 4#32
  let v129 : BitVec 32 := Scalar.muli v10 c4_i32_80
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v131 : BitVec 32 := Scalar.muli v8 c1_i32_81
  let v132 : BitVec 32 := Scalar.addi v130 v131
  v132.toNat
def k0_dev10 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v142 : BitVec 32 := Scalar.muli v2 c8_i32_86
  let v143 : BitVec 32 := Scalar.addi c0_i32_87 v142
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_88 : BitVec 32 := 4#32
  let v144 : BitVec 32 := Scalar.muli v10 c4_i32_88
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v146 : BitVec 32 := Scalar.muli v8 c1_i32_89
  let v147 : BitVec 32 := Scalar.addi v145 v146
  v147.toNat
def k0_dev11 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_94 : BitVec 32 := 8#32
  let v157 : BitVec 32 := Scalar.muli v2 c8_i32_94
  let v158 : BitVec 32 := Scalar.addi c0_i32_95 v157
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_96 : BitVec 32 := 4#32
  let v159 : BitVec 32 := Scalar.muli v10 c4_i32_96
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v161 : BitVec 32 := Scalar.muli v8 c1_i32_97
  let v162 : BitVec 32 := Scalar.addi v160 v161
  v162.toNat
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v34 : BitVec 32 := Scalar.muli v5 c2048_i32
  let c0_i32_100 : BitVec 32 := 0#32
  ![v34.toNat, 0]
def k0_off4 (d0 : Dev nD) (c0_i32_102 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_21 v5
  let c2048_i32_22 : BitVec 32 := 2048#32
  let v36 : BitVec 32 := Scalar.muli v35 c2048_i32_22
  let c2_i32_23 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_23 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v38 : BitVec 32 := Scalar.addi v37 v9
  let c512_i32_101 : BitVec 32 := 512#32
  let v170 : BitVec 32 := Scalar.muli v38 c512_i32_101
  let v171 : BitVec 32 := Scalar.addi v36 v170
  let v172 : BitVec 32 := Scalar.addi v171 c0_i32_102
  let c0_i32_109 : BitVec 32 := 0#32
  ![v172.toNat, 0]
def k0_dev12 (d0 : Dev nD) : Nat :=
  let c0_i32_115 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_114 : BitVec 32 := 8#32
  let v183 : BitVec 32 := Scalar.muli v11 c8_i32_114
  let v184 : BitVec 32 := Scalar.addi c0_i32_115 v183
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_116 : BitVec 32 := 4#32
  let v185 : BitVec 32 := Scalar.muli v5 c4_i32_116
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v187 : BitVec 32 := Scalar.muli v8 c1_i32_117
  let v188 : BitVec 32 := Scalar.addi v186 v187
  v188.toNat
def k0_dev13 (d0 : Dev nD) : Nat :=
  let c0_i32_123 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_122 : BitVec 32 := 8#32
  let v195 : BitVec 32 := Scalar.muli v2 c8_i32_122
  let v196 : BitVec 32 := Scalar.addi c0_i32_123 v195
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_124 : BitVec 32 := 4#32
  let v197 : BitVec 32 := Scalar.muli v5 c4_i32_124
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_125 : BitVec 32 := 1#32
  let v199 : BitVec 32 := Scalar.muli v14 c1_i32_125
  let v200 : BitVec 32 := Scalar.addi v198 v199
  v200.toNat
def k0_dev14 (d0 : Dev nD) : Nat :=
  let c0_i32_142 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_141 : BitVec 32 := 8#32
  let v220 : BitVec 32 := Scalar.muli v11 c8_i32_141
  let v221 : BitVec 32 := Scalar.addi c0_i32_142 v220
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_143 : BitVec 32 := 4#32
  let v222 : BitVec 32 := Scalar.muli v5 c4_i32_143
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v224 : BitVec 32 := Scalar.muli v8 c1_i32_144
  let v225 : BitVec 32 := Scalar.addi v223 v224
  v225.toNat
def k0_dev15 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v232 : BitVec 32 := Scalar.muli v2 c8_i32_149
  let v233 : BitVec 32 := Scalar.addi c0_i32_150 v232
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v234 : BitVec 32 := Scalar.muli v5 c4_i32_151
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_152 : BitVec 32 := 1#32
  let v236 : BitVec 32 := Scalar.muli v14 c1_i32_152
  let v237 : BitVec 32 := Scalar.addi v235 v236
  v237.toNat
def k0_dev16 (d0 : Dev nD) : Nat :=
  let c0_i32_169 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_168 : BitVec 32 := 8#32
  let v257 : BitVec 32 := Scalar.muli v11 c8_i32_168
  let v258 : BitVec 32 := Scalar.addi c0_i32_169 v257
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_170 : BitVec 32 := 4#32
  let v259 : BitVec 32 := Scalar.muli v5 c4_i32_170
  let v260 : BitVec 32 := Scalar.addi v258 v259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v261 : BitVec 32 := Scalar.muli v8 c1_i32_171
  let v262 : BitVec 32 := Scalar.addi v260 v261
  v262.toNat
def k0_dev17 (d0 : Dev nD) : Nat :=
  let c0_i32_177 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_176 : BitVec 32 := 8#32
  let v269 : BitVec 32 := Scalar.muli v2 c8_i32_176
  let v270 : BitVec 32 := Scalar.addi c0_i32_177 v269
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_178 : BitVec 32 := 4#32
  let v271 : BitVec 32 := Scalar.muli v5 c4_i32_178
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_179 : BitVec 32 := 1#32
  let v273 : BitVec 32 := Scalar.muli v14 c1_i32_179
  let v274 : BitVec 32 := Scalar.addi v272 v273
  v274.toNat
def k0_dev18 (d0 : Dev nD) : Nat :=
  let c0_i32_196 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_195 : BitVec 32 := 8#32
  let v294 : BitVec 32 := Scalar.muli v11 c8_i32_195
  let v295 : BitVec 32 := Scalar.addi c0_i32_196 v294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_197 : BitVec 32 := 4#32
  let v296 : BitVec 32 := Scalar.muli v5 c4_i32_197
  let v297 : BitVec 32 := Scalar.addi v295 v296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v298 : BitVec 32 := Scalar.muli v8 c1_i32_198
  let v299 : BitVec 32 := Scalar.addi v297 v298
  v299.toNat
def k0_dev19 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v306 : BitVec 32 := Scalar.muli v2 c8_i32_203
  let v307 : BitVec 32 := Scalar.addi c0_i32_204 v306
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v308 : BitVec 32 := Scalar.muli v5 c4_i32_205
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_206 : BitVec 32 := 1#32
  let v310 : BitVec 32 := Scalar.muli v14 c1_i32_206
  let v311 : BitVec 32 := Scalar.addi v309 v310
  v311.toNat
def k0_dev20 (d0 : Dev nD) : Nat :=
  let c0_i32_223 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_222 : BitVec 32 := 8#32
  let v331 : BitVec 32 := Scalar.muli v11 c8_i32_222
  let v332 : BitVec 32 := Scalar.addi c0_i32_223 v331
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_224 : BitVec 32 := 4#32
  let v333 : BitVec 32 := Scalar.muli v5 c4_i32_224
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_225 : BitVec 32 := 1#32
  let v335 : BitVec 32 := Scalar.muli v8 c1_i32_225
  let v336 : BitVec 32 := Scalar.addi v334 v335
  v336.toNat
def k0_dev21 (d0 : Dev nD) : Nat :=
  let c0_i32_231 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_230 : BitVec 32 := 8#32
  let v343 : BitVec 32 := Scalar.muli v2 c8_i32_230
  let v344 : BitVec 32 := Scalar.addi c0_i32_231 v343
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_232 : BitVec 32 := 4#32
  let v345 : BitVec 32 := Scalar.muli v5 c4_i32_232
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_233 : BitVec 32 := 1#32
  let v347 : BitVec 32 := Scalar.muli v14 c1_i32_233
  let v348 : BitVec 32 := Scalar.addi v346 v347
  v348.toNat
def k0_dev22 (d0 : Dev nD) : Nat :=
  let c0_i32_250 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_249 : BitVec 32 := 8#32
  let v368 : BitVec 32 := Scalar.muli v11 c8_i32_249
  let v369 : BitVec 32 := Scalar.addi c0_i32_250 v368
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_251 : BitVec 32 := 4#32
  let v370 : BitVec 32 := Scalar.muli v5 c4_i32_251
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v372 : BitVec 32 := Scalar.muli v8 c1_i32_252
  let v373 : BitVec 32 := Scalar.addi v371 v372
  v373.toNat
def k0_dev23 (d0 : Dev nD) : Nat :=
  let c0_i32_258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_257 : BitVec 32 := 8#32
  let v380 : BitVec 32 := Scalar.muli v2 c8_i32_257
  let v381 : BitVec 32 := Scalar.addi c0_i32_258 v380
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_259 : BitVec 32 := 4#32
  let v382 : BitVec 32 := Scalar.muli v5 c4_i32_259
  let v383 : BitVec 32 := Scalar.addi v381 v382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_260 : BitVec 32 := 1#32
  let v384 : BitVec 32 := Scalar.muli v14 c1_i32_260
  let v385 : BitVec 32 := Scalar.addi v383 v384
  v385.toNat
def k0_dev24 (d0 : Dev nD) : Nat :=
  let c0_i32_277 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_276 : BitVec 32 := 8#32
  let v405 : BitVec 32 := Scalar.muli v11 c8_i32_276
  let v406 : BitVec 32 := Scalar.addi c0_i32_277 v405
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_278 : BitVec 32 := 4#32
  let v407 : BitVec 32 := Scalar.muli v5 c4_i32_278
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_279 : BitVec 32 := 1#32
  let v409 : BitVec 32 := Scalar.muli v8 c1_i32_279
  let v410 : BitVec 32 := Scalar.addi v408 v409
  v410.toNat
def k0_dev25 (d0 : Dev nD) : Nat :=
  let c0_i32_285 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_284 : BitVec 32 := 8#32
  let v417 : BitVec 32 := Scalar.muli v2 c8_i32_284
  let v418 : BitVec 32 := Scalar.addi c0_i32_285 v417
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_286 : BitVec 32 := 4#32
  let v419 : BitVec 32 := Scalar.muli v5 c4_i32_286
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_287 : BitVec 32 := 1#32
  let v421 : BitVec 32 := Scalar.muli v14 c1_i32_287
  let v422 : BitVec 32 := Scalar.addi v420 v421
  v422.toNat
def k0_dev26 (d0 : Dev nD) : Nat :=
  let c0_i32_304 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_303 : BitVec 32 := 8#32
  let v442 : BitVec 32 := Scalar.muli v11 c8_i32_303
  let v443 : BitVec 32 := Scalar.addi c0_i32_304 v442
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_305 : BitVec 32 := 4#32
  let v444 : BitVec 32 := Scalar.muli v5 c4_i32_305
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v446 : BitVec 32 := Scalar.muli v8 c1_i32_306
  let v447 : BitVec 32 := Scalar.addi v445 v446
  v447.toNat
def k0_dev27 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v454 : BitVec 32 := Scalar.muli v2 c8_i32_311
  let v455 : BitVec 32 := Scalar.addi c0_i32_312 v454
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v456 : BitVec 32 := Scalar.muli v5 c4_i32_313
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_314 : BitVec 32 := 1#32
  let v458 : BitVec 32 := Scalar.muli v14 c1_i32_314
  let v459 : BitVec 32 := Scalar.addi v457 v458
  v459.toNat
def k0_off5 (d0 : Dev nD) (c0_i32_318 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_21 v5
  let c2048_i32_22 : BitVec 32 := 2048#32
  let v36 : BitVec 32 := Scalar.muli v35 c2048_i32_22
  let c2_i32_26 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v42 : BitVec 32 := Scalar.muli c2_i32_26 v2
  let c1_i32_27 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v43 : BitVec 32 := Scalar.subi c1_i32_27 v9
  let v44 : BitVec 32 := Scalar.addi v42 v43
  let c512_i32_317 : BitVec 32 := 512#32
  let v466 : BitVec 32 := Scalar.muli v44 c512_i32_317
  let v467 : BitVec 32 := Scalar.addi v36 v466
  let v468 : BitVec 32 := Scalar.addi v467 c0_i32_318
  let c0_i32_325 : BitVec 32 := 0#32
  ![v468.toNat, 0]
def k0_dev28 (d0 : Dev nD) : Nat :=
  let c0_i32_331 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_330 : BitVec 32 := 8#32
  let v479 : BitVec 32 := Scalar.muli v11 c8_i32_330
  let v480 : BitVec 32 := Scalar.addi c0_i32_331 v479
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_332 : BitVec 32 := 4#32
  let v481 : BitVec 32 := Scalar.muli v5 c4_i32_332
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v483 : BitVec 32 := Scalar.muli v8 c1_i32_333
  let v484 : BitVec 32 := Scalar.addi v482 v483
  v484.toNat
def k0_dev29 (d0 : Dev nD) : Nat :=
  let c0_i32_350 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_349 : BitVec 32 := 8#32
  let v504 : BitVec 32 := Scalar.muli v11 c8_i32_349
  let v505 : BitVec 32 := Scalar.addi c0_i32_350 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_351 : BitVec 32 := 4#32
  let v506 : BitVec 32 := Scalar.muli v5 c4_i32_351
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v508 : BitVec 32 := Scalar.muli v8 c1_i32_352
  let v509 : BitVec 32 := Scalar.addi v507 v508
  v509.toNat
def k0_dev30 (d0 : Dev nD) : Nat :=
  let c0_i32_369 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_368 : BitVec 32 := 8#32
  let v529 : BitVec 32 := Scalar.muli v11 c8_i32_368
  let v530 : BitVec 32 := Scalar.addi c0_i32_369 v529
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_370 : BitVec 32 := 4#32
  let v531 : BitVec 32 := Scalar.muli v5 c4_i32_370
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v533 : BitVec 32 := Scalar.muli v8 c1_i32_371
  let v534 : BitVec 32 := Scalar.addi v532 v533
  v534.toNat
def k0_dev31 (d0 : Dev nD) : Nat :=
  let c0_i32_388 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_387 : BitVec 32 := 8#32
  let v554 : BitVec 32 := Scalar.muli v11 c8_i32_387
  let v555 : BitVec 32 := Scalar.addi c0_i32_388 v554
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_389 : BitVec 32 := 4#32
  let v556 : BitVec 32 := Scalar.muli v5 c4_i32_389
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v558 : BitVec 32 := Scalar.muli v8 c1_i32_390
  let v559 : BitVec 32 := Scalar.addi v557 v558
  v559.toNat
def k0_off6 (d0 : Dev nD) (c256_i32_394 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_21 v5
  let c2048_i32_22 : BitVec 32 := 2048#32
  let v36 : BitVec 32 := Scalar.muli v35 c2048_i32_22
  let c2_i32_25 : BitVec 32 := 2#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_24 v2
  let v40 : BitVec 32 := Scalar.muli c2_i32_25 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v41 : BitVec 32 := Scalar.addi v40 v9
  let c512_i32_393 : BitVec 32 := 512#32
  let v566 : BitVec 32 := Scalar.muli v41 c512_i32_393
  let v567 : BitVec 32 := Scalar.addi v36 v566
  let v568 : BitVec 32 := Scalar.addi v567 c256_i32_394
  let c0_i32_401 : BitVec 32 := 0#32
  ![v568.toNat, 0]
def k0_dev32 (d0 : Dev nD) : Nat :=
  let c0_i32_407 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_406 : BitVec 32 := 8#32
  let v579 : BitVec 32 := Scalar.muli v2 c8_i32_406
  let v580 : BitVec 32 := Scalar.addi c0_i32_407 v579
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_408 : BitVec 32 := 4#32
  let v581 : BitVec 32 := Scalar.muli v5 c4_i32_408
  let v582 : BitVec 32 := Scalar.addi v580 v581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_409 : BitVec 32 := 1#32
  let v583 : BitVec 32 := Scalar.muli v14 c1_i32_409
  let v584 : BitVec 32 := Scalar.addi v582 v583
  v584.toNat
def k0_dev33 (d0 : Dev nD) : Nat :=
  let c0_i32_426 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_425 : BitVec 32 := 8#32
  let v604 : BitVec 32 := Scalar.muli v2 c8_i32_425
  let v605 : BitVec 32 := Scalar.addi c0_i32_426 v604
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_427 : BitVec 32 := 4#32
  let v606 : BitVec 32 := Scalar.muli v5 c4_i32_427
  let v607 : BitVec 32 := Scalar.addi v605 v606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_428 : BitVec 32 := 1#32
  let v608 : BitVec 32 := Scalar.muli v14 c1_i32_428
  let v609 : BitVec 32 := Scalar.addi v607 v608
  v609.toNat
def k0_dev34 (d0 : Dev nD) : Nat :=
  let c0_i32_445 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_444 : BitVec 32 := 8#32
  let v629 : BitVec 32 := Scalar.muli v2 c8_i32_444
  let v630 : BitVec 32 := Scalar.addi c0_i32_445 v629
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_446 : BitVec 32 := 4#32
  let v631 : BitVec 32 := Scalar.muli v5 c4_i32_446
  let v632 : BitVec 32 := Scalar.addi v630 v631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_447 : BitVec 32 := 1#32
  let v633 : BitVec 32 := Scalar.muli v14 c1_i32_447
  let v634 : BitVec 32 := Scalar.addi v632 v633
  v634.toNat
def k0_dev35 (d0 : Dev nD) : Nat :=
  let c0_i32_464 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_463 : BitVec 32 := 8#32
  let v654 : BitVec 32 := Scalar.muli v2 c8_i32_463
  let v655 : BitVec 32 := Scalar.addi c0_i32_464 v654
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_465 : BitVec 32 := 4#32
  let v656 : BitVec 32 := Scalar.muli v5 c4_i32_465
  let v657 : BitVec 32 := Scalar.addi v655 v656
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_466 : BitVec 32 := 1#32
  let v658 : BitVec 32 := Scalar.muli v14 c1_i32_466
  let v659 : BitVec 32 := Scalar.addi v657 v658
  v659.toNat
def k0_off7 (d0 : Dev nD) (c0_i32_558 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_21 v5
  let c2048_i32_22 : BitVec 32 := 2048#32
  let v36 : BitVec 32 := Scalar.muli v35 c2048_i32_22
  let c2_i32_29 : BitVec 32 := 2#32
  let c1_i32_28 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_28 v2
  let v46 : BitVec 32 := Scalar.muli c2_i32_29 v45
  let c1_i32_30 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v47 : BitVec 32 := Scalar.subi c1_i32_30 v9
  let v48 : BitVec 32 := Scalar.addi v46 v47
  let c512_i32_557 : BitVec 32 := 512#32
  let v770 : BitVec 32 := Scalar.muli v48 c512_i32_557
  let v771 : BitVec 32 := Scalar.addi v36 v770
  let v772 : BitVec 32 := Scalar.addi v771 c0_i32_558
  let c0_i32_565 : BitVec 32 := 0#32
  ![v772.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Flights.lean ====
/- The kernel's traffic as a table: the 32 blocks of 64 rows ("flights") every device sends, to whom, which rows of the
   receiver's result they fill, in which order they leave and are awaited. Plain arithmetic, no program. -/
module

public import proofs.«01_k».proof.Proof.Gen.KernelIdeal
public import Mathlib.Tactic.DeriveFintype

@[expose] public section

namespace Cert.GatherProof

open Idealize.ShloMosaic
open Cert.KernelIdeal

/-- One block of 64 rows that every device sends once: `y r` is chunk `r` of the device's own input quarter, sent across the
    y axis; `xf r` and `zf r` are the chunk `r` that came across y, passed on across x and across z; `xd r` is the chunk that
    came by `zf r`, passed on across x; `zd r` the chunk that came by `xf (4 + r)`, passed on across z. -/
inductive Flight
  | y (r : Fin 8) | xf (r : Fin 8) | zf (r : Fin 8) | xd (r : Fin 4) | zd (r : Fin 4)
  deriving DecidableEq, Fintype

/-- The mesh direction of a hop. -/
inductive Axis
  | y | x | z
  deriving DecidableEq

instance : Fintype Axis := ⟨{.y, .x, .z}, fun a => by cases a <;> decide⟩

namespace Flight

/-- Chunk `4 + r` of eight. -/
def upper (r : Fin 4) : Fin 8 := ⟨4 + r.val, by omega⟩
/-- Chunk `r` of eight, `r` among the first four. -/
def lower (r : Fin 4) : Fin 8 := ⟨r.val, by omega⟩

/-- The axis the flight crosses. -/
def axis : Flight → Axis
  | y _ => .y | xf _ => .x | zf _ => .z | xd _ => .x | zd _ => .z

/-- The chunk of its quarter the flight carries. -/
def chunk : Flight → Fin 8
  | y r => r | xf r => r | zf r => r | xd r => lower r | zd r => upper r

/-- 1 when the quarter the flight fills is that of the receiver's neighbour across x. -/
def offX : Flight → ℕ
  | y _ => 0 | xf _ => 1 | zf _ => 0 | xd _ => 1 | zd _ => 1
/-- 1 when the quarter the flight fills is that of the receiver's neighbour across z. -/
def offZ : Flight → ℕ
  | y _ => 0 | xf _ => 0 | zf _ => 1 | xd _ => 1 | zd _ => 1

/-- The arrived flight whose rows this one passes on (`y` flights pass on the device's own input: no meaning). -/
def parent : Flight → Flight
  | y r => y r | xf r => y r | zf r => y r | xd r => zf (lower r) | zd r => xf (upper r)

/-- The flight's place in the order of sending. -/
def rank : Flight → ℕ
  | y r => r.val | xf r => 8 + 2 * r.val | zf r => 9 + 2 * r.val | xd r => 24 + r.val | zd r => 28 + r.val

/-- The flight's place in the order in which the receiver waits for it. -/
def due : Flight → ℕ
  | y r => r.val
  | xf r => if 4 ≤ r.val then 8 + r.val else 16 + r.val
  | zf r => if 4 ≤ r.val then 16 + r.val else 8 + r.val
  | xd r => 24 + r.val | zd r => 28 + r.val

/-- How many arrivals a device has waited for when the rows this flight passes on are there. -/
def need : Flight → ℕ
  | y _ => 0 | xf r => r.val + 1 | zf r => r.val + 1 | xd r => 9 + r.val | zd r => 13 + r.val

/-- The number of hops the rows have made on arrival, plus one: what orders the waits. -/
def level : Flight → ℕ
  | y _ => 2 | xf _ => 3 | zf _ => 3 | xd _ => 4 | zd _ => 4

theorem rank_injective : Function.Injective rank := by decide +kernel
theorem due_injective : Function.Injective due := by decide +kernel
theorem rank_lt (k : Flight) : rank k < 32 := by revert k; decide +kernel
theorem due_lt (k : Flight) : due k < 32 := by revert k; decide +kernel
theorem need_le (k : Flight) : need k ≤ 16 := by revert k; decide +kernel

/-- The flights that pass the arrival `k` on are those that need exactly one more arrival than were due before `k`. -/
theorem need_eq_iff (k k' : Flight) : need k' = due k + 1 ↔ (need k' ≠ 0 ∧ parent k' = k) := by
  revert k k'; decide +kernel

end Flight

/-! ## The devices: device `8 x + 4 y + z` stands at `(x, y, z)` -/

/-- A device's x coordinate, -/
def xOf (d : Dev nD) : ℕ := d.val / 8
/-- its y coordinate, -/
def yOf (d : Dev nD) : ℕ := d.val / 4 % 2
/-- and the parity of its z coordinate. -/
def zOf (d : Dev nD) : ℕ := d.val % 2

/-- The neighbour across an axis: across z, the other device of the same pair `{0, 1}` or `{2, 3}`. -/
def across (a : Axis) (d : Dev nD) : Dev nD :=
  match a with
  | .y => ⟨8 * (d.val / 8) + 4 * (1 - d.val / 4 % 2) + d.val % 4, by have := d.isLt; simp only [nD] at *; omega⟩
  | .x => ⟨8 * (1 - d.val / 8) + d.val % 8, by have := d.isLt; simp only [nD] at *; omega⟩
  | .z => ⟨2 * (d.val / 2) + (1 - d.val % 2), by have := d.isLt; simp only [nD] at *; omega⟩

theorem across_across (a : Axis) (d : Dev nD) : across a (across a d) = d := by revert a d; decide +kernel

/-- Crossing an axis is a bijection of the devices. -/
def acrossEquiv (a : Axis) : Dev nD ≃ Dev nD := ⟨across a, across a, across_across a, across_across a⟩

/-- The block (of 64 blocks of 64 rows) of the result of device `d` that the flight `k` arriving at `d` fills. -/
def blk (d : Dev nD) (k : Flight) : ℕ :=
  32 * (1 - yOf d) + 16 * ((xOf d + k.offX) % 2) + 8 * ((zOf d + k.offZ) % 2) + k.chunk.val

theorem blk_lt (d : Dev nD) (k : Flight) : blk d k < 64 := by revert d k; decide +kernel
theorem blk_injective (d : Dev nD) : Function.Injective (blk d) := by revert d; decide +kernel
/-- The flights arriving at a device fill the half of the other y coordinate. -/
theorem blk_half (d : Dev nD) (k : Flight) : blk d k / 32 = 1 - yOf d := by revert d k; decide +kernel
/-- Every block of that half is filled by a flight. -/
theorem blk_surj (d : Dev nD) (b : Fin 64) (h : b.val / 32 ≠ yOf d) : ∃ k, blk d k = b.val := by
  revert d b; decide +kernel
/-- A flight passed on leaves from the same rows of the sender's result as it fills of the receiver's. -/
theorem blk_parent (d : Dev nD) (k : Flight) (h : k.need ≠ 0) : blk (across k.axis d) k = blk d k.parent := by
  revert d k; decide +kernel

end Cert.GatherProof

end
-- ==== Proof.Trace.lean ====
/- The kernel's body as a list of steps: what each step does to the machine, and that the printed body is exactly this list,
   run after the device has read its own number. -/
module

public import proofs.«01_k».proof.Proof.Flights
public import proofs.«01_k».proof.Proof.Gen.KernelIdeal.Frame

@[expose] public section

noncomputable section

namespace Cert.GatherProof

open Idealize.ShloMosaic Idealize.ShloMosaic.TcCoe
open Idealize.SL.Sem
open Cert.KernelIdeal Cert.KernelIdeal.Gen

variable {F : FTy → Type} [FloatOps F]

/-! ## The buffers and semaphores -/

/-- The staged input. -/
abbrev xM : Memref sig .tc .vmem S2048x512 .f32 := Memref.whole cc0_stg0_0
/-- The staged result. -/
abbrev oM : Memref sig .tc .vmem S4096x512 .f32 := Memref.whole cc0_stg1_0

/-- The 64 rows of the staged input from `off`. -/
abbrev xRows (off : Fin 2 → ℕ) (h : ∀ a, off a + S64x512.size a ≤ S2048x512.size a) : Memref sig .tc .vmem S64x512 .f32 :=
  xM.slice (Rect.unit (s := S2048x512) off S64x512.size h) (fun _ => rfl)
/-- The 64 rows of the staged result from `off`. -/
abbrev oRows (off : Fin 2 → ℕ) (h : ∀ a, off a + S64x512.size a ≤ S4096x512.size a) : Memref sig .tc .vmem S64x512 .f32 :=
  oM.slice (Rect.unit (s := S4096x512) off S64x512.size h) (fun _ => rfl)
/-- The half of the staged result that the device fills from its own input. -/
abbrev ownHalf (d : Dev nD) : Memref sig .tc .vmem S2048x512 .f32 :=
  oM.slice (Rect.unit (s := S4096x512) (k0_off3 d) S2048x512.size (k0_off3_inb d)) (fun _ => rfl)

/-- The barrier semaphore. -/
abbrev barS : Sem sig := (SemArray.scalar (sig.barrier 0 rfl) : Sems sig S_).sem
/-- The semaphore of the local copy. -/
abbrev copyS : DmaSem sig := (⟨66, by decide⟩ : Fin 67)

/-- The semaphore a flight's sender waits on. -/
def sendS : Flight → DmaSem sig
  | .y r => (⟨2 + r.val, by omega⟩ : Fin 67)
  | .xf r => (⟨18 + r.val, by omega⟩ : Fin 67)
  | .zf r => (⟨34 + r.val, by omega⟩ : Fin 67)
  | .xd r => (⟨50 + r.val, by omega⟩ : Fin 67)
  | .zd r => (⟨58 + r.val, by omega⟩ : Fin 67)
/-- The semaphore a flight's receiver waits on. -/
def recvS : Flight → DmaSem sig
  | .y r => (⟨10 + r.val, by omega⟩ : Fin 67)
  | .xf r => (⟨26 + r.val, by omega⟩ : Fin 67)
  | .zf r => (⟨42 + r.val, by omega⟩ : Fin 67)
  | .xd r => (⟨54 + r.val, by omega⟩ : Fin 67)
  | .zd r => (⟨62 + r.val, by omega⟩ : Fin 67)

/-- The neighbour across an axis, as the kernel computes it. -/
def devOf (a : Axis) (d : Dev nD) : Dev nD :=
  match a with
  | .y => ⟨k0_dev1 d, k0_dev1_lt d⟩
  | .x => ⟨k0_dev2 d, k0_dev2_lt d⟩
  | .z => ⟨k0_dev3 d, k0_dev3_lt d⟩

/-- What a flight carries, at its sender. -/
def srcRef (d : Dev nD) : Flight → Memref sig .tc .vmem S64x512 .f32
  | .y r => xRows (k0_off2 d (BitVec.ofNat 32 (64 * r.val))) (k0_off2_inb d r)
  | .xf r => oRows (k0_off4 d (BitVec.ofNat 32 (64 * r.val))) (k0_off4_inb d r)
  | .zf r => oRows (k0_off4 d (BitVec.ofNat 32 (64 * r.val))) (k0_off4_inb d r)
  | .xd r => oRows (k0_off5 d (BitVec.ofNat 32 (64 * (Flight.lower r).val))) (k0_off5_inb d (Flight.lower r))
  | .zd r => oRows (k0_off6 d (BitVec.ofNat 32 (64 * (Flight.upper r).val))) (k0_off6_inb d (Flight.upper r))
/-- Where a flight lands at its receiver, in the sender's terms. -/
def dstRef (d : Dev nD) : Flight → Memref sig .tc .vmem S64x512 .f32
  | .y r => oRows (k0_off1 d (BitVec.ofNat 32 (64 * r.val))) (k0_off1_inb d r)
  | k => srcRef d k
/-- Where a flight lands, in the receiver's terms. -/
def landRef (d : Dev nD) : Flight → Memref sig .tc .vmem S64x512 .f32
  | .y r => oRows (k0_off4 d (BitVec.ofNat 32 (64 * r.val))) (k0_off4_inb d r)
  | .xf r => oRows (k0_off6 d (BitVec.ofNat 32 (64 * r.val))) (k0_off6_inb d r)
  | .zf r => oRows (k0_off5 d (BitVec.ofNat 32 (64 * r.val))) (k0_off5_inb d r)
  | .xd r => oRows (k0_off7 d (BitVec.ofNat 32 (64 * (Flight.lower r).val))) (k0_off7_inb d (Flight.lower r))
  | .zd r => oRows (k0_off7 d (BitVec.ofNat 32 (64 * (Flight.upper r).val))) (k0_off7_inb d (Flight.upper r))
/-- The first 64 rows of the staged input: named, not read, by the waits for arrivals. -/
abbrev anyRows : Memref sig .tc .vmem S64x512 .f32 := xRows ![0, 0] inb_S2048x512_S64x512_0_0

/-! ## The steps -/

/-- One step of the body: signal the neighbour across an axis; wait for the three neighbours' signals; send a flight; start
    and await the copy of the own input; wait for a flight's arrival; wait until a flight sent has left. -/
inductive Step
  | signal (a : Axis) | meet | send (k : Flight) | copy | recv (k : Flight) | sent (k : Flight) | copied

/-- The machine operation of a step on device `d`. -/
def Step.eff (d : Dev nD) : Step → TpuEff nD τ sig (Elt F) Λ₀ .tc PUnit
  | .signal a => .semSignal (devOf a d, .tc) barS (1#32 : BitVec 32).toInt
  | .meet => .semWait barS (3#32 : BitVec 32).toInt
  | .send k => .enqueueDma (srcRef d k) (.remote (Dev.tc (devOf k.axis d)) (dstRef d k) (.dma (sendS k))) (.dma (recvS k))
      (View.wordExact_bits rfl) (View.wordExact_bits rfl) ⟨⟨rfl, Or.inl rfl⟩, trivial⟩
  | .copy => .enqueueDma xM (.here (ownHalf d)) (.dma copyS) (Memref.isWhole_whole _).wordExact (View.wordExact_bits rfl) ⟨Or.inl rfl, trivial⟩
  | .recv k => .waitDma2 (recvS k) anyRows (landRef d k) (View.wordExact_bits rfl) (View.wordExact_bits rfl)
  | .sent k => .waitDma2 (sendS k) (dstRef d k) (srcRef d k) (View.wordExact_bits rfl) (View.wordExact_bits rfl)
  | .copied => .waitDma2 copyS xM (ownHalf d) (Memref.isWhole_whole _).wordExact (View.wordExact_bits rfl)

/-- The program that takes the steps of a list in turn. -/
def run (d : Dev nD) : List Step → Prog (TpuEff nD τ sig (Elt F) Λ₀ .tc) PUnit
  | [] => .ret ⟨⟩
  | o :: l => .op (o.eff d) fun _ => run d l

abbrev eight : List (Fin 8) := [0, 1, 2, 3, 4, 5, 6, 7]
abbrev four : List (Fin 4) := [0, 1, 2, 3]

/-- All flights in the order of sending. -/
def inOrder : List Flight :=
  eight.map .y ++ eight.flatMap (fun r => [.xf r, .zf r]) ++ four.map .xd ++ four.map .zd

/-- The steps up to the start of the local copy: meet the neighbours, send the own quarter across y. -/
def opening : List Step := eight.map fun r => .send (.y r)
/-- The steps between: pass on what arrives, then wait for all arrivals and for all sends to have left. -/
def relay : List Step :=
  eight.flatMap (fun r => [.recv (.y r), .send (.xf r), .send (.zf r)])
    ++ four.flatMap (fun r => [.recv (.zf (Flight.lower r)), .send (.xd r)])
    ++ four.flatMap (fun r => [.recv (.xf (Flight.upper r)), .send (.zd r)])
    ++ four.map (fun r => .recv (.xf (Flight.lower r))) ++ four.map (fun r => .recv (.zf (Flight.upper r)))
    ++ four.map (fun r => .recv (.xd r)) ++ four.map (fun r => .recv (.zd r))
    ++ inOrder.map .sent

/-- The whole body's steps. -/
def steps : List Step :=
  [.signal .y, .signal .x, .signal .z, .meet] ++ (opening ++ ([.copy] ++ (relay ++ [.copied])))

set_option maxRecDepth 65536 in
/-- The printed body: read the device's number, then take the steps. -/
theorem body_eq :
    cc0_body (F := F) xM (Memref.isWhole_whole _) oM (Memref.isWhole_whole _) cc0_scratch0 cc0_scratch1 cc0_scratch2 cc0_scratch3
        cc0_scratch4 cc0_scratch5 cc0_scratch6 cc0_scratch7 cc0_scratch8 cc0_scratch9 cc0_scratch10
      = .op .deviceId fun d => run d steps := by
  chain_rfl

end Cert.GatherProof

end
-- ==== Proof.Contents.lean ====
/- Where the rows of the result come from: the element sets the transfers fill, the finished contents of each device's
   result, and that every transfer writes exactly those. -/
module

public import proofs.«01_k».proof.Proof.Trace
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pipeline.ValueKit.Geometry

@[expose] public section

noncomputable section

namespace Cert.GatherProof

open Idealize.ShloMosaic Idealize.ShloMosaic.TcCoe
open Idealize.SL.Sem
open Cert.KernelIdeal Cert.KernelIdeal.Gen

/-! ## The printed devices and rows -/

/-- The kernel's device numbers are the neighbours. -/
theorem devOf_eq (a : Axis) (d : Dev nD) : devOf a d = across a d := by revert a d; decide +kernel

theorem blkRows_inb (d : Dev nD) (k : Flight) : ∀ a, (![64 * blk d k, 0] : Fin 2 → ℕ) a + S64x512.size a ≤ S4096x512.size a := by
  revert d k; decide +kernel

/-- The 64 rows of device `d`'s result that flight `k`, arriving at `d`, fills. -/
def chunkM (d : Dev nD) (k : Flight) : Memref sig .tc .vmem S64x512 .f32 := oRows ![64 * blk d k, 0] (blkRows_inb d k)

theorem oRows_congr {off off' : Fin 2 → ℕ} (h : ∀ a, off a + S64x512.size a ≤ S4096x512.size a)
    (h' : ∀ a, off' a + S64x512.size a ≤ S4096x512.size a) (e : off = off') : oRows off h = oRows off' h' := by
  subst e; rfl

theorem off4_blk : ∀ (d : Dev nD) (r : Fin 8), k0_off4 d (BitVec.ofNat 32 (64 * r.val)) = ![64 * blk d (.y r), 0] := by decide +kernel
theorem off5_blk : ∀ (d : Dev nD) (r : Fin 8), k0_off5 d (BitVec.ofNat 32 (64 * r.val)) = ![64 * blk d (.zf r), 0] := by decide +kernel
theorem off6_blk : ∀ (d : Dev nD) (r : Fin 8), k0_off6 d (BitVec.ofNat 32 (64 * r.val)) = ![64 * blk d (.xf r), 0] := by decide +kernel
theorem off7_blk_xd : ∀ (d : Dev nD) (r : Fin 4),
    k0_off7 d (BitVec.ofNat 32 (64 * (Flight.lower r).val)) = ![64 * blk d (.xd r), 0] := by decide +kernel
theorem off7_blk_zd : ∀ (d : Dev nD) (r : Fin 4),
    k0_off7 d (BitVec.ofNat 32 (64 * (Flight.upper r).val)) = ![64 * blk d (.zd r), 0] := by decide +kernel
theorem off1_blk : ∀ (d : Dev nD) (r : Fin 8),
    k0_off1 d (BitVec.ofNat 32 (64 * r.val)) = ![64 * blk (across .y d) (.y r), 0] := by decide +kernel

/-- A flight's rows at its receiver, as the receiver's waits name them. -/
theorem landRef_eq (d : Dev nD) (k : Flight) : landRef d k = chunkM d k := by
  cases k with
  | y r => exact oRows_congr _ _ (off4_blk d r)
  | xf r => exact oRows_congr _ _ (off6_blk d r)
  | zf r => exact oRows_congr _ _ (off5_blk d r)
  | xd r => exact oRows_congr _ _ (off7_blk_xd d r)
  | zd r => exact oRows_congr _ _ (off7_blk_zd d r)

/-- A flight passed on is read from the rows its parent filled. -/
theorem srcRef_eq (d : Dev nD) (k : Flight) (h : k.need ≠ 0) : srcRef d k = chunkM d k.parent := by
  cases k with
  | y r => exact absurd rfl h
  | xf r => exact oRows_congr _ _ (off4_blk d r)
  | zf r => exact oRows_congr _ _ (off4_blk d r)
  | xd r => exact oRows_congr _ _ (off5_blk d (Flight.lower r))
  | zd r => exact oRows_congr _ _ (off6_blk d (Flight.upper r))

/-- A flight's rows at its receiver, as the sender names them. -/
theorem dstRef_eq (d : Dev nD) (k : Flight) : dstRef d k = chunkM (across k.axis d) k := by
  by_cases h : k.need = 0
  · cases k with
    | y r => exact oRows_congr _ _ (off1_blk d r)
    | xf r => exact absurd h (Nat.succ_ne_zero _)
    | zf r => exact absurd h (Nat.succ_ne_zero _)
    | xd r => exact absurd (show 9 + r.val = 0 from h) (by omega)
    | zd r => exact absurd (show 13 + r.val = 0 from h) (by omega)
  · rw [show dstRef d k = srcRef d k by cases k <;> first | rfl | exact absurd rfl h, srcRef_eq d k h]
    exact oRows_congr _ _ (by rw [blk_parent d k h])

/-! ## The element sets -/

/-- An index's row, -/
abbrev rowOf (i : S4096x512.Idx) : ℕ := (i 0).val
/-- and its column. -/
abbrev colOf (i : S4096x512.Idx) : ℕ := (i 1).val

/-- The elements of the result that flight `k`, arriving at `d`, fills. -/
def chunkSet (d : Dev nD) (k : Flight) : Finset S4096x512.Idx := (chunkM d k).view.set
/-- The elements of the result that device `d` fills from its own input. -/
def ownSet (d : Dev nD) : Finset S4096x512.Idx := (ownHalf d).view.set

theorem chunkSet_eq (d : Dev nD) (k : Flight) :
    chunkSet d k = (Rect.unit (s := S4096x512) ![64 * blk d k, 0] S64x512.size (blkRows_inb d k)).set :=
  View.set_slice_whole (b := cc0_stg1_0) _
theorem ownSet_eq (d : Dev nD) :
    ownSet d = (Rect.unit (s := S4096x512) (k0_off3 d) S2048x512.size (k0_off3_inb d)).set :=
  View.set_slice_whole (b := cc0_stg1_0) _

/-- A flight's elements are the rows of its block. -/
theorem mem_chunk (d : Dev nD) (k : Flight) (i : S4096x512.Idx) : i ∈ chunkSet d k ↔ (i 0).val / 64 = blk d k := by
  rw [chunkSet_eq, Rect.mem_set_unit]
  have h1 : (i 1).val < 512 := (i 1).isLt
  constructor
  · intro h
    have h0 : 64 * blk d k ≤ (i 0).val ∧ (i 0).val < 64 * blk d k + 64 := h 0
    omega
  · intro h a
    match a with
    | ⟨0, _⟩ => exact (show 64 * blk d k ≤ (i 0).val ∧ (i 0).val < 64 * blk d k + 64 by omega)
    | ⟨1, _⟩ => exact (show 0 ≤ (i 1).val ∧ (i 1).val < 0 + 512 by omega)

/-- The own elements are the rows of the half of the device's y coordinate. -/
theorem mem_own (d : Dev nD) (i : S4096x512.Idx) : i ∈ ownSet d ↔ (i 0).val / 2048 = yOf d := by
  rw [ownSet_eq, Rect.mem_set_unit, k0_off3_eq]
  have h1 : (i 1).val < 512 := (i 1).isLt
  have hy : yOf d = d.val / 4 % 2 := rfl
  constructor
  · intro h
    have h0 : 2048 * (d.val / 4 % 2) ≤ (i 0).val ∧ (i 0).val < 2048 * (d.val / 4 % 2) + 2048 := h 0
    omega
  · intro h a
    match a with
    | ⟨0, _⟩ => exact (show 2048 * (d.val / 4 % 2) ≤ (i 0).val ∧ (i 0).val < 2048 * (d.val / 4 % 2) + 2048 by omega)
    | ⟨1, _⟩ => exact (show 0 ≤ (i 1).val ∧ (i 1).val < 0 + 512 by omega)

/-- Different flights fill different rows. -/
theorem chunk_disjoint (d : Dev nD) {k k' : Flight} (h : k ≠ k') : Disjoint (chunkSet d k) (chunkSet d k') :=
  Finset.disjoint_left.mpr fun i hi hi' => h (blk_injective d (((mem_chunk d k i).mp hi).symm.trans ((mem_chunk d k' i).mp hi')))

/-- All rows the flights arriving at `d` fill. -/
def otherSet (d : Dev nD) : Finset S4096x512.Idx := Finset.univ.biUnion (chunkSet d)

theorem yOf_lt (d : Dev nD) : yOf d < 2 := Nat.mod_lt _ (by decide)

theorem mem_other (d : Dev nD) (i : S4096x512.Idx) : i ∈ otherSet d ↔ (i 0).val / 2048 ≠ yOf d := by
  have hi : (i 0).val < 4096 := (i 0).isLt
  have hy := yOf_lt d
  unfold otherSet
  rw [Finset.mem_biUnion]
  constructor
  · rintro ⟨k, -, hk⟩
    have := blk_half d k
    rw [← (mem_chunk d k i).mp hk] at this
    omega
  · intro h
    obtain ⟨k, hk⟩ := blk_surj d ⟨(i 0).val / 64, by omega⟩ (by show (i 0).val / 64 / 32 ≠ _; omega)
    exact ⟨k, Finset.mem_univ _, (mem_chunk d k i).mpr hk.symm⟩

theorem own_disjoint (d : Dev nD) : Disjoint (ownSet d) (otherSet d) :=
  Finset.disjoint_left.mpr fun i hi hi' => (mem_other d i).mp hi' ((mem_own d i).mp hi)

theorem own_union (d : Dev nD) : ownSet d ∪ otherSet d = Finset.univ := by
  refine Finset.eq_univ_iff_forall.mpr fun i => ?_
  by_cases h : (i 0).val / 2048 = yOf d
  · exact Finset.mem_union_left _ ((mem_own d i).mpr h)
  · exact Finset.mem_union_right _ ((mem_other d i).mpr h)

/-! ## The finished contents -/

/-- The device whose input the block `b` of device `d`'s result comes from. -/
def org (d : Dev nD) (b : ℕ) : Dev nD :=
  if b / 32 = yOf d then d
  else ⟨8 * (b / 16 % 2) + 4 * (1 - yOf d) + 2 * (d.val % 4 / 2) + b / 8 % 2, by simp only [nD]; omega⟩

/-- The input's row and column that a row and column of the result come from. -/
def toIn (i : S4096x512.Idx) : S2048x512.Idx
  | ⟨0, _⟩ => (⟨(i 0).val % 2048, Nat.mod_lt _ (by decide)⟩ : Fin 2048)
  | ⟨1, _⟩ => (i 1 : Fin 512)

/-- The block of the far device's input that a `y` flight carries is the block of the result it fills. -/
theorem org_y : ∀ (d : Dev nD) (r : Fin 8), org (across .y d) (blk (across .y d) (.y r)) = d
    ∧ k0_off2 d (BitVec.ofNat 32 (64 * r.val)) = ![64 * (blk (across .y d) (.y r) % 32), 0] := by decide +kernel

/-- A flight passed on: sender and receiver take the block from the same device. -/
theorem org_hop : ∀ (d : Dev nD) (k : Flight), k.need ≠ 0 → org (across k.axis d) (blk d k.parent) = org d (blk d k.parent) := by
  decide +kernel

theorem org_own (d : Dev nD) (b : ℕ) (h : b / 32 = yOf d) : org d b = d := if_pos h

/-- Every block comes from a device whose y coordinate is the half the block lies in. -/
theorem yOf_org : ∀ (d : Dev nD) (b : Fin 64), yOf (org d b.val) = b.val / 32 := by decide +kernel

section Values

variable {Val : EltTy → Type} (X : Dev nD → (cc0_stg0_0 : Ref sig .tc).ty.Contents Val)

/-- The finished result of device `d` when device `e` holds `X e` as its input. -/
def gathered (d : Dev nD) : (cc0_stg1_0 : Ref sig .tc).ty.Contents Val :=
  fun i : S4096x512.Idx => X (org d ((i 0).val / 64)) (toIn i)

/-- A transfer into 64 rows, at an element of those rows. -/
theorem write_rows (off : Fin 2 → ℕ) (h : ∀ a, off a + S64x512.size a ≤ S4096x512.size a)
    (f : (cc0_stg1_0 : Ref sig .tc).ty.Contents Val) (w : S64x512.Idx → Val .f32) (j : S64x512.Idx) :
    (oRows off h).view.write Val f w Finset.univ ((oRows off h).view.emb j) = w j :=
  View.write_emb_of_mem (v := (oRows off h).view) (Val := Val) f w (Finset.mem_univ j)

theorem emb_rows_val (off : Fin 2 → ℕ) (h : ∀ a, off a + S64x512.size a ≤ S4096x512.size a) (j : S64x512.Idx) (a : Fin 2) :
    (((oRows off h).view.emb j : S4096x512.Idx) a).val = off a + (j a).val :=
  ValueKit.view_emb_slice_whole_unit_val cc0_stg1_0 off S64x512.size h j a

/-- What a `y` flight from `d` writes is the finished contents of its receiver's rows. -/
theorem write_y (d : Dev nD) (r : Fin 8) (f : (cc0_stg1_0 : Ref sig .tc).ty.Contents Val) :
    ∀ i ∈ chunkSet (across .y d) (.y r),
      (chunkM (across .y d) (.y r)).view.write Val f ((srcRef d (.y r)).view.read Val (X d)) Finset.univ i
        = gathered X (across .y d) i := by
  intro i hi
  obtain ⟨j, -, rfl⟩ := Finset.mem_map.mp hi
  refine (write_rows _ _ _ _ _).trans ?_
  obtain ⟨ho, hoff⟩ := org_y d r
  have hj0 : (j 0).val < 64 := (j 0).isLt
  have hb := blk_lt (across .y d) (.y r)
  have e0 : rowOf ((chunkM (across .y d) (.y r)).view.emb j) = 64 * blk (across .y d) (.y r) + (j 0).val :=
    emb_rows_val _ _ j 0
  have e1 : colOf ((chunkM (across .y d) (.y r)).view.emb j) = 0 + (j 1).val := emb_rows_val _ _ j 1
  show X d _ = X (org (across .y d) (rowOf ((chunkM (across .y d) (.y r)).view.emb j) / 64)) _
  rw [e0, show (64 * blk (across .y d) (.y r) + (j 0).val) / 64 = blk (across .y d) (.y r) by omega, ho]
  refine congrArg (X d) (funext fun a => Fin.ext ?_)
  refine (ValueKit.view_emb_slice_whole_unit_val cc0_stg0_0 _ S64x512.size (k0_off2_inb d r) j a).trans ?_
  refine (congrArg (fun o : Fin 2 → ℕ => o a + (j a).val) hoff).trans ?_
  match a with
  | ⟨0, _⟩ =>
    show 64 * (blk (across .y d) (.y r) % 32) + (j 0).val = rowOf ((chunkM (across .y d) (.y r)).view.emb j) % 2048
    rw [e0]; omega
  | ⟨1, _⟩ =>
    show 0 + (j 1).val = colOf ((chunkM (across .y d) (.y r)).view.emb j)
    rw [e1]

/-- Sender and receiver of a flight passed on finish with the same contents in the flight's rows. -/
theorem gathered_hop (d : Dev nD) (k : Flight) (h : k.need ≠ 0) (i : S4096x512.Idx) (hi : (i 0).val / 64 = blk d k.parent) :
    gathered X d i = gathered X (across k.axis d) i := by
  show X (org d ((i 0).val / 64)) _ = X (org (across k.axis d) ((i 0).val / 64)) _
  rw [hi, org_hop d k h]

/-- What a flight passed on writes is the finished contents of its receiver's rows. -/
theorem write_hop (d : Dev nD) (k : Flight) (h : k.need ≠ 0) (f : (cc0_stg1_0 : Ref sig .tc).ty.Contents Val) :
    ∀ i ∈ chunkSet d k.parent,
      (chunkM d k.parent).view.write Val f ((chunkM d k.parent).view.read Val (gathered X d)) Finset.univ i
        = gathered X (across k.axis d) i := by
  intro i hi
  rw [← gathered_hop X d k h i ((mem_chunk d _ i).mp hi)]
  obtain ⟨j, -, rfl⟩ := Finset.mem_map.mp hi
  exact (write_rows _ _ _ _ _).trans rfl

/-- What the copy of the own input writes is the finished contents of the own half. -/
theorem write_own (d : Dev nD) (f : (cc0_stg1_0 : Ref sig .tc).ty.Contents Val) :
    ∀ i ∈ ownSet d,
      (ownHalf d).view.write Val f (xM.view.read Val (X d)) Finset.univ i = gathered X d i := by
  intro i hi
  have hy : rowOf i / 2048 = yOf d := (mem_own d i).mp hi
  obtain ⟨j, -, rfl⟩ := Finset.mem_map.mp hi
  refine (View.write_emb_of_mem (v := (ownHalf d).view) (Val := Val) f _ (Finset.mem_univ j)).trans ?_
  have hj0 : (j 0).val < 2048 := (j 0).isLt
  have e0 : rowOf ((ownHalf d).view.emb j) = 2048 * (d.val / 4 % 2) + (j 0).val :=
    (ValueKit.view_emb_slice_whole_unit_val cc0_stg1_0 _ S2048x512.size (k0_off3_inb d) j 0).trans
      (congrArg (fun o : Fin 2 → ℕ => o 0 + (j 0).val) (k0_off3_eq d))
  have e1 : colOf ((ownHalf d).view.emb j) = 0 + (j 1).val :=
    (ValueKit.view_emb_slice_whole_unit_val cc0_stg1_0 _ S2048x512.size (k0_off3_inb d) j 1).trans
      (congrArg (fun o : Fin 2 → ℕ => o 1 + (j 1).val) (k0_off3_eq d))
  show X d j = X (org d (rowOf ((ownHalf d).view.emb j) / 64)) _
  rw [org_own d _ (by rw [Nat.div_div_eq_div_mul]; exact hy)]
  refine congrArg (X d) (funext fun a => Fin.ext ?_)
  match a with
  | ⟨0, _⟩ =>
    show (j 0).val = rowOf ((ownHalf d).view.emb j) % 2048
    rw [e0]; omega
  | ⟨1, _⟩ =>
    show (j 1).val = colOf ((ownHalf d).view.emb j)
    rw [e1, Nat.zero_add]

end Values

end Cert.GatherProof

end
-- ==== Proof.Schedule.lean ====
/- Who hands what to whom: the semaphores as cells, what a wait on each cell brings, what a device owes at each moment, and
   the order of the waits that rules a deadlock out. -/
module

public import proofs.«01_k».proof.Proof.Contents
public import Idealize.ShloMosaic.Lib.Rounds

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Axis
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch. -/
def s₀ : MemSt nD τ sig (Elt F) := ⟨m, fun _ => 0, ρ⟩

/-! ## The cells -/

/-- The kernel's own semaphores: the local copy's, each flight's at its sender, each flight's at its receiver. -/
abbrev Own : Type := Unit ⊕ Flight ⊕ Flight
/-- All semaphores the kernel uses: the barrier and its own. -/
abbrev Cell : Type := Unit ⊕ Own

/-- The semaphore of an own cell. -/
def osem : Own → SemLoc sig
  | .inl _ => .dma copyS
  | .inr (.inl k) => .dma (sendS k)
  | .inr (.inr k) => .dma (recvS k)
/-- The semaphore of a cell. -/
def csem : Cell → SemLoc sig
  | .inl _ => .reg barS
  | .inr o => osem o

theorem osem_injective : Function.Injective osem := by decide +kernel
theorem csem_injective : Function.Injective csem := by
  rintro (⟨⟩ | a) (⟨⟩ | b) h
  · rfl
  · rcases b with _ | _ | _ <;> exact absurd h (fun h' => by cases h')
  · rcases a with _ | _ | _ <;> exact absurd h (fun h' => by cases h')
  · exact congrArg Sum.inr (osem_injective h)

/-- The cell of a semaphore, if it is one the kernel uses. -/
def role (s : SemLoc sig) : Option Cell := Function.partialInv csem s

theorem role_csem (k : Cell) : role (csem k) = some k := Function.partialInv_left csem_injective k
theorem role_bar : role (.reg barS) = some (.inl ()) := role_csem (.inl ())
theorem role_osem (o : Own) : role (osem o) = some (.inr o) := role_csem (.inr o)

theorem role_none {s : SemLoc sig} (h : ∀ k, csem k ≠ s) : role s = none := by
  unfold role Function.partialInv
  exact dif_neg fun ⟨k, hk⟩ => h k hk

abbrev kcell (ck : Dev nD × Cell) : GSem nD τ sig := ((ck.1 : Thread nD τ), csem ck.2)
abbrev barCell (c : Dev nD) : GSem nD τ sig := ((c : Thread nD τ), .reg barS)
abbrev ownCell (c : Dev nD) (o : Own) : GSem nD τ sig := ((c : Thread nD τ), osem o)
abbrev copyCell (c : Dev nD) : GSem nD τ sig := ((c : Thread nD τ), .dma copyS)
abbrev sendCell (c : Dev nD) (k : Flight) : GSem nD τ sig := ((c : Thread nD τ), .dma (sendS k))
abbrev recvCell (c : Dev nD) (k : Flight) : GSem nD τ sig := ((c : Thread nD τ), .dma (recvS k))

/-- What 64 rows credit a semaphore; -/
def N : ℕ := (chunkM 0 (.y 0)).view.dmaCredit
/-- what a whole input credits one. -/
def NC : ℕ := (ownHalf 0).view.dmaCredit
theorem N_pos : 0 < N := View.dmaCredit_pos _ (by decide)
theorem NC_pos : 0 < NC := View.dmaCredit_pos _ (by decide)

/-- What completes an own cell's wait. -/
def credit : Own → ℕ
  | .inl _ => NC
  | .inr _ => N
theorem credit_pos (o : Own) : 0 < credit o := by rcases o with _ | _ <;> [exact NC_pos; exact N_pos]

/-! ## What is held and handed over -/

/-- Device `d`'s staged input. -/
def xstg (d : Dev nD) : (cc0_stg0_0 : Ref sig .tc).ty.Contents (Elt F) :=
  (win0_0.blk (0 : Fin 1)).view.read (Elt F) ((s₀ m ρ).mem ((d : Thread nD τ).loc main_arg0))
/-- Device `d`'s finished result. -/
def result (d : Dev nD) : (cc0_stg1_0 : Ref sig .tc).ty.Contents (Elt F) := gathered (xstg m ρ) d

abbrev inLoc (d : Dev nD) : Loc nD τ sig := (d : Thread nD τ).loc cc0_stg0_0
abbrev outLoc (d : Dev nD) : Loc nD τ sig := (d : Thread nD τ).loc cc0_stg1_0

/-- Device `d`'s result rows of flight `k`, at share `q` and contents `f`. -/
def rows (d : Dev nD) (k : Flight) (q : PosShare TreeShare) (f : (cc0_stg1_0 : Ref sig .tc).ty.Contents (Elt F)) : sProp 𝕄 :=
  outLoc d ↦[chunkSet d k]{q} f

/-- The elements of the input that a `y` flight carries. -/
def inSet (d : Dev nD) (r : Fin 8) : Finset S2048x512.Idx := (srcRef d (.y r)).view.set

/-- The rows a flight carries and the share of them it takes: a `y` flight half of its rows of the input; the two flights
    that pass a quarter's rows on, a half each of them; a flight of the second hop the whole of them. -/
def carried (d : Dev nD) : Flight → sProp 𝕄
  | .y r => inLoc d ↦[inSet d r]{fullShare.left} xstg m ρ d
  | .xf r => rows d (.y r) fullShare.left (result m ρ d)
  | .zf r => rows d (.y r) fullShare.right (result m ρ d)
  | .xd r => rows d (.zf (Flight.lower r)) fullShare (result m ρ d)
  | .zd r => rows d (.xf (Flight.upper r)) fullShare (result m ρ d)

/-- What a wait on an own cell brings: the copy the own half, filled, and the half share of the input it read; a flight
    sent what it carried; a flight arrived its rows, filled. -/
def ownPay (d : Dev nD) : Own → sProp 𝕄
  | .inl _ => iprop((outLoc d ↦[ownSet d]{fullShare} result m ρ d) ∗ (inLoc d ↦{fullShare.right} xstg m ρ d))
  | .inr (.inl k) => carried m ρ d k
  | .inr (.inr k) => rows d k fullShare (result m ρ d)

/-- What the signal across an axis brings device `d`: the rows of that neighbour's result that `d`'s flights fill. -/
def barPay (d : Dev nD) (a : Axis) : sProp 𝕄 :=
  bigSep Finset.univ fun k : Flight => if k.axis = a then iprop(∃ f, rows (across a d) k fullShare f) else iprop(emp)

omit [FloatOps F] in
instance rows_storable (d : Dev nD) (k : Flight) (q) (f) : BI.Storable (upEmb : UEmb _ 𝕄) (rows (F := F) d k q f) := by
  unfold rows; infer_instance
omit [FloatOps F] in
instance carried_storable (d : Dev nD) (k : Flight) : BI.Storable (upEmb : UEmb _ 𝕄) (carried (F := F) m ρ d k) := by
  cases k <;> (unfold carried; infer_instance)
omit [FloatOps F] in
instance ownPay_storable (d : Dev nD) (o : Own) : BI.Storable (upEmb : UEmb _ 𝕄) (ownPay (F := F) m ρ d o) := by
  rcases o with _ | _ | _ <;> (unfold ownPay; infer_instance)
omit [FloatOps F] in
instance barPay_storable (d : Dev nD) (a : Axis) : BI.Storable (upEmb : UEmb _ 𝕄) (barPay (F := F) d a) := by
  unfold barPay
  have : ∀ k : Flight, BI.Storable (upEmb : UEmb _ 𝕄)
      (if k.axis = a then iprop(∃ f, rows (F := F) (across a d) k fullShare f) else iprop(emp)) := fun k => by
    split <;> infer_instance
  infer_instance

omit [FloatOps F] in
/-- A conjunction over the flights, sorted by the axis each crosses. -/
theorem sort_axis (Φ : Flight → sProp 𝕄) :
    bigSep Finset.univ Φ = bigSep Finset.univ fun a : Axis => bigSep Finset.univ fun k : Flight => if k.axis = a then Φ k else iprop(emp) := by
  rw [Pipeline.bigSep_univ_comm]
  refine bigSep_congr fun k _ => ?_
  rw [bigSep_univ_at _ k.axis, if_pos rfl, bigSep_congr (s := Finset.univ.erase k.axis) (Ψ := fun _ => iprop(emp))
    (fun a ha => if_neg fun h => Finset.ne_of_mem_erase ha h.symm)]
  rw [show bigSep (Finset.univ.erase k.axis) (fun _ => (iprop(emp) : sProp 𝕄)) = iprop(emp) from bigSep_emp_const _]
  exact (BI.equiv_iff.mp ⟨(sep_emp (PROP := sProp 𝕄)).1, (sep_emp (PROP := sProp 𝕄)).2⟩).symm

/-! ## The schedule: one round -/

/-- One round: a barrier cell is paid a unit by each of the three neighbours, an own cell its credit once. -/
def sched : Rounds.Schedule (GSem nD τ sig) Axis 𝕄 where
  duties g r := if r = 0 ∧ g.1.2 = .tc then (match role g.2 with | none => ∅ | some (.inl _) => Finset.univ | some (.inr _) => {.y}) else ∅
  unitless _ := False
  amount g _ _ := match role g.2 with | some (.inr o) => credit o | _ => 1
  payload g _ a := match role g.2 with | none => iprop(emp) | some (.inl _) => barPay g.1.1 a | some (.inr o) => ownPay m ρ g.1.1 o
  amount_pos g _ _ _ := by
    rcases role g.2 with _ | _ | o
    · exact Nat.one_pos
    · exact Nat.one_pos
    · exact credit_pos o

omit [FloatOps F] in
instance sched_storable (g : GSem nD τ sig) (r : ℕ) (a : Axis) : BI.Storable (upEmb : UEmb _ 𝕄) ((sched (F := F) m ρ).payload g r a) := by
  show BI.Storable upEmb (match role g.2 with | none => iprop(emp) | some (.inl _) => barPay g.1.1 a | some (.inr o) => ownPay m ρ g.1.1 o)
  split <;> infer_instance

section Facts
variable (c : Dev nD)

omit [FloatOps F] in
theorem duties_bar : (sched (F := F) m ρ).duties (barCell c) 0 = Finset.univ := by
  dsimp only [sched]; rw [if_pos ⟨rfl, rfl⟩, role_bar]
omit [FloatOps F] in
theorem duties_own (o : Own) : (sched (F := F) m ρ).duties (ownCell c o) 0 = {.y} := by
  dsimp only [sched]; rw [if_pos ⟨rfl, rfl⟩, role_osem]
omit [FloatOps F] in
theorem duties_later (g : GSem nD τ sig) : ∀ r, 1 ≤ r → (sched (F := F) m ρ).duties g r = ∅ :=
  fun r hr => by dsimp only [sched]; rw [if_neg fun h => by omega]

omit [FloatOps F] in
theorem amount_bar (a : Axis) : (sched (F := F) m ρ).amount (barCell c) 0 a = 1 := by dsimp only [sched]; rw [role_bar]
omit [FloatOps F] in
theorem amount_own (o : Own) (a : Axis) : (sched (F := F) m ρ).amount (ownCell c o) 0 a = credit o := by
  dsimp only [sched]; rw [role_osem]

omit [FloatOps F] in
theorem expect_bar : (sched (F := F) m ρ).expect (barCell c) 0 = 3 := by
  unfold Schedule.expect Schedule.amountOf
  rw [duties_bar, Finset.sum_congr rfl fun a _ => amount_bar m ρ c a]; rfl
omit [FloatOps F] in
theorem expect_own (o : Own) : (sched (F := F) m ρ).expect (ownCell c o) 0 = credit o := by
  unfold Schedule.expect Schedule.amountOf
  rw [duties_own, Finset.sum_singleton, amount_own]

omit [FloatOps F] in
theorem payload_bar (a : Axis) : (sched (F := F) m ρ).payload (barCell c) 0 a = barPay c a := by dsimp only [sched]; rw [role_bar]
omit [FloatOps F] in
theorem payload_own (o : Own) (a : Axis) : (sched (F := F) m ρ).payload (ownCell c o) 0 a = ownPay m ρ c o := by
  dsimp only [sched]; rw [role_osem]

/-- The rows of the neighbours' results that device `c` fills. -/
def landings : sProp 𝕄 := bigSep Finset.univ fun k : Flight => iprop(∃ f, rows (F := F) (across k.axis c) k fullShare f)

omit [FloatOps F] in
/-- The three signals together bring the rows of all the device's flights. -/
theorem rest_bar : bigSep ((sched (F := F) m ρ).duties (barCell c) 0 \ ∅) (fun a => (sched m ρ).payload (barCell c) 0 a) = landings (F := F) c := by
  rw [Finset.sdiff_empty, duties_bar]
  unfold landings
  rw [sort_axis]
  refine bigSep_congr fun a _ => ?_
  rw [payload_bar]
  unfold barPay
  exact bigSep_congr fun k _ => by
    by_cases h : k.axis = a
    · rw [if_pos h, if_pos h, h]
    · rw [if_neg h, if_neg h]
omit [FloatOps F] in
theorem rest_own (o : Own) : bigSep ((sched (F := F) m ρ).duties (ownCell c o) 0 \ ∅) (fun a => (sched m ρ).payload (ownCell c o) 0 a) = ownPay m ρ c o := by
  rw [Finset.sdiff_empty, duties_own, bigSep_singleton, payload_own]

end Facts

/-! ## The order of the waits -/

/-- Only the TensorCores wait. -/
def L (g : GSem nD τ sig) : Finset Unit := if g.1.2 = .tc then {()} else ∅
/-- A device that waits on a semaphore owes only semaphores of a higher level: the barrier, then the arrivals by the number of
    hops they have made. The semaphores a device serves itself are at the bottom. -/
def lv (g : GSem nD τ sig) (_ : Unit) : ℕ :=
  match role g.2 with
  | some (.inl _) => 1
  | some (.inr (.inr (.inr k))) => k.level
  | _ => 0

theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) (u : Unit) : lv (barCell c) u = 1 := by unfold lv; rw [role_bar]
theorem lv_recv (c : Dev nD) (k : Flight) (u : Unit) : lv (recvCell c k) u = k.level := by
  unfold lv; rw [show role (recvCell c k).2 = _ from role_osem (.inr (.inr k))]
theorem lv_none (c : Dev nD) (s : SemLoc sig) (h : ∀ k, csem k ≠ s) (u : Unit) : lv ((c : Thread nD τ), s) u = 0 := by
  unfold lv; rw [role_none h]

/-- What device `c` owes after `s` sends: the arrivals of the flights still to send. -/
def debts (c : Dev nD) (s : ℕ) : CellTallies nD τ sig Unit :=
  ∑ k : Flight, if s ≤ k.rank then tallyAt (recvCell (across k.axis c) k) () N else 0

/-- What it owes at launch: all of these and a unit to each neighbour. -/
def owed (c : Dev nD) : CellTallies nD τ sig Unit :=
  debts c 0 + tallyAt (barCell (across .z c)) () 1 + tallyAt (barCell (across .x c)) () 1 + tallyAt (barCell (across .y c)) () 1

theorem debts_apply (c : Dev nD) (s : ℕ) (g : GSem nD τ sig) (u : Unit) :
    debts c s g u = ∑ k : Flight, if s ≤ k.rank then tallyAt (recvCell (across k.axis c) k) () N g u else 0 := by
  unfold debts
  rw [Finset.sum_apply, Finsupp.finset_sum_apply]
  refine Finset.sum_congr rfl fun k _ => ?_
  by_cases h : s ≤ k.rank
  · rw [if_pos h, if_pos h]
  · rw [if_neg h, if_neg h]; rfl

theorem debts_pos {c : Dev nD} {s : ℕ} {g : GSem nD τ sig} {u : Unit} (h : 0 < debts c s g u) :
    ∃ k : Flight, s ≤ k.rank ∧ g = recvCell (across k.axis c) k := by
  rw [debts_apply] at h
  obtain ⟨k, -, hk⟩ := Finset.exists_ne_zero_of_sum_ne_zero (Nat.pos_iff_ne_zero.mp h)
  by_cases hs : s ≤ k.rank
  · rw [if_pos hs, tallyAt_apply] at hk
    by_cases hg : g = recvCell (across k.axis c) k ∧ u = ()
    · exact ⟨k, hs, hg.1⟩
    · rw [if_neg hg] at hk; exact absurd rfl hk
  · rw [if_neg hs] at hk; exact absurd rfl hk

theorem debts_end (c : Dev nD) : debts c 32 = 0 := by
  unfold debts
  exact Finset.sum_eq_zero fun k _ => if_neg (Nat.not_le.mpr k.rank_lt)

/-- Sending the next flight pays its arrival off. -/
theorem debts_send (c : Dev nD) (k : Flight) : debts c k.rank = debts c (k.rank + 1) + tallyAt (recvCell (across k.axis c) k) () N := by
  unfold debts
  rw [← Finset.sum_erase_add _ _ (Finset.mem_univ k), if_pos le_rfl]
  refine congrArg (· + _) ?_
  rw [← Finset.sum_erase_add (f := fun k' : Flight => if k.rank + 1 ≤ k'.rank then tallyAt (recvCell (across k'.axis c) k') () N else 0)
    _ (Finset.mem_univ k), if_neg (by omega), add_zero]
  refine Finset.sum_congr rfl fun k' hk' => ?_
  have hne : k'.rank ≠ k.rank := fun h => (Finset.mem_erase.mp hk').1 (Flight.rank_injective h)
  by_cases h : k.rank ≤ k'.rank
  · rw [if_pos h, if_pos (by omega)]
  · rw [if_neg h, if_neg (by omega)]

theorem owed_pos {c : Dev nD} {g : GSem nD τ sig} {u : Unit} (h : 0 < owed c g u) :
    (∃ k : Flight, g = recvCell (across k.axis c) k) ∨ ∃ a : Axis, g = barCell (across a c) := by
  unfold owed at h
  rw [Pi.add_apply, Finsupp.add_apply, Pi.add_apply, Finsupp.add_apply, Pi.add_apply, Finsupp.add_apply, tallyAt_apply,
    tallyAt_apply, tallyAt_apply] at h
  by_contra hn
  rw [not_or] at hn
  have hb : ∀ a : Axis, ¬ (g = barCell (across a c) ∧ u = ()) := fun a h' => hn.2 ⟨a, h'.1⟩
  rw [if_neg (hb _), if_neg (hb _), if_neg (hb _)] at h
  obtain ⟨k, -, hk⟩ := debts_pos (c := c) (s := 0) (g := g) (u := u) (by omega)
  exact hn.1 ⟨k, hk⟩

theorem level_pos (k : Flight) : 1 < k.level := by revert k; decide +kernel

omit [FloatOps F] in
/-- A device may wait on a semaphore below every arrival it still owes. -/
theorem mayWait_debts (c : Dev nD) (sm : SemLoc sig) (s n : ℕ) (hn : lv ((c : Thread nD τ), sm) () ≤ n)
    (h : ∀ k : Flight, s ≤ k.rank → n < k.level) :
    (levAts L lv : sProp 𝕄) ⊢ MayWait (c : Thread nD τ) sm () (debts c s) :=
  MayOwe.of_cut (L := L) (lev := lv) n (fun p hp => by rw [Finset.mem_singleton.mp hp, L_tc]; exact Finset.mem_singleton_self _)
    (fun g u hg => by obtain ⟨k, -, rfl⟩ := debts_pos hg; rw [L_tc]; exact Finset.mem_singleton_self _)
    (fun p hp => by rw [Finset.mem_singleton.mp hp]; exact hn)
    (fun g u hg => by obtain ⟨k, hk, rfl⟩ := debts_pos hg; rw [lv_recv]; exact h k hk)

omit [FloatOps F] in
/-- The launch's own waits, on semaphores outside the kernel, are below everything. -/
theorem mayWait_stage (c : Dev nD) (sm : SemLoc sig) (hs : ∀ k, csem k ≠ sm) (O : CellTallies nD τ sig Unit) (hO : O = owed c ∨ O = 0) :
    (levAts L lv : sProp 𝕄) ⊢ MayWait (c : Thread nD τ) sm () O := by
  rcases hO with rfl | rfl
  · exact MayOwe.of_cut (L := L) (lev := lv) 0 (fun p hp => by rw [Finset.mem_singleton.mp hp, L_tc]; exact Finset.mem_singleton_self _)
      (fun g u hg => by rcases owed_pos hg with ⟨k, rfl⟩ | ⟨a, rfl⟩ <;> (rw [L_tc]; exact Finset.mem_singleton_self _))
      (fun p hp => by rw [Finset.mem_singleton.mp hp]; exact (lv_none c sm hs ()).le)
      (fun g u hg => by
        rcases owed_pos hg with ⟨k, rfl⟩ | ⟨a, rfl⟩
        · rw [lv_recv]; exact (level_pos k).trans' Nat.one_pos
        · rw [lv_bar]; exact Nat.one_pos)
  · rw [MayWait_zero]; iintro -; iempintro

end Cert.GatherProof

end
-- ==== Proof.Steps.lean ====
/- The relay, one rule per kind of step: what a device holds after `s` sends, `r` arrivals and `w` sends seen off, and that
   every step leads from one such state to the next. -/
module

public import proofs.«01_k».proof.Proof.Schedule

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Passing arrived rows on -/

omit [FloatOps F] in
/-- A choice that never falls on anything. -/
theorem pick_none (p : Flight → Prop) [DecidablePred p] (Φ : Flight → sProp 𝕄) (h : ∀ j, ¬ p j) :
    (iprop(emp) : sProp 𝕄) ⊢ bigSep Finset.univ fun j => if p j then Φ j else iprop(emp) := by
  refine BI.Entails.trans ?_ (Entails.of_eq (bigSep_filter Finset.univ p Φ))
  rw [Finset.filter_false_of_mem fun j _ => h j]
  exact Entails.refl _
omit [FloatOps F] in
/-- A choice that falls on one flight. -/
theorem pick_one (p : Flight → Prop) [DecidablePred p] (Φ : Flight → sProp 𝕄) (k : Flight) (h : ∀ j, p j ↔ j = k) :
    Φ k ⊢ bigSep Finset.univ fun j => if p j then Φ j else iprop(emp) := by
  refine BI.Entails.trans ?_ (Entails.of_eq (bigSep_filter Finset.univ p Φ))
  rw [show Finset.univ.filter p = {k} by ext j; simp [h j], bigSep_singleton]
  exact BI.Entails.refl _
omit [FloatOps F] in
/-- A choice that falls on two flights. -/
theorem pick_two (p : Flight → Prop) [DecidablePred p] (Φ : Flight → sProp 𝕄) (k k' : Flight) (hne : k ≠ k') (h : ∀ j, p j ↔ (j = k ∨ j = k')) :
    iprop(Φ k ∗ Φ k') ⊢ bigSep Finset.univ fun j => if p j then Φ j else iprop(emp) := by
  refine BI.Entails.trans ?_ (Entails.of_eq (bigSep_filter Finset.univ p Φ))
  rw [show Finset.univ.filter p = {k, k'} by ext j; simp [h j], bigSep_insert (by simpa using hne), bigSep_singleton]
  exact Entails.refl _

/-- The rows of a flight across y are passed on by two flights; -/
theorem next_y : ∀ (r : Fin 8) (j : Flight), j.need = (Flight.y r).due + 1 ↔ (j = .xf r ∨ j = .zf r) := by decide +kernel
/-- those of other flights by one or none. -/
theorem next_hop : ∀ k : Flight, k.need ≠ 0 → k.due < 16 →
    ∃ r : Fin 4, (k = .zf (Flight.lower r) ∧ ∀ j : Flight, j.need = k.due + 1 ↔ j = .xd r)
      ∨ (k = .xf (Flight.upper r) ∧ ∀ j : Flight, j.need = k.due + 1 ↔ j = .zd r) := by decide +kernel

omit [FloatOps F] in
/-- Arrived rows are kept, or dealt out to the flights that pass them on. -/
theorem hand_on (c : Dev nD) (k : Flight) :
    rows c k fullShare (result m ρ c) ⊢ iprop((if 16 ≤ k.due then rows c k fullShare (result m ρ c) else iprop(emp))
      ∗ bigSep Finset.univ fun j : Flight => if j.need = k.due + 1 then carried m ρ c j else iprop(emp)) := by
  by_cases h16 : 16 ≤ k.due
  · rw [if_pos h16]
    iintro H
    isplitl [H]; · iexact H
    iapply (pick_none (F := F) _ _ fun j hj => absurd hj (by have := j.need_le; omega))
    iempintro
  · rw [if_neg h16]
    iintro H
    isplitr; · iempintro
    by_cases hk : k.need = 0
    · obtain ⟨r, rfl⟩ : ∃ r, k = .y r := by revert hk; revert k; decide +kernel
      iapply (pick_two _ (carried m ρ c) (.xf r) (.zf r) (fun h => by cases h) (next_y r))
      have hs : (rows c (.y r) fullShare (result m ρ c) : sProp 𝕄) ⊢ iprop(carried m ρ c (.xf r) ∗ carried m ρ c (.zf r)) :=
        (pointsTo_share (PosShare.mem_left_op_right fullShare)).1
      iapply hs; iexact H
    · obtain ⟨r, ⟨rfl, hj⟩ | ⟨rfl, hj⟩⟩ := next_hop k hk (by omega)
      · have h : (rows c (.zf (Flight.lower r)) fullShare (result m ρ c) : sProp 𝕄) ⊢ _ := pick_one _ (carried m ρ c) (.xd r) hj
        iapply h; iexact H
      · have h : (rows c (.xf (Flight.upper r)) fullShare (result m ρ c) : sProp 𝕄) ⊢ _ := pick_one _ (carried m ρ c) (.zd r) hj
        iapply h; iexact H

/-! ## The state -/

/-- Every cell's invariant, and that every cell's round has begun. -/
def records (K : Dev nD × Cell → ℕ) : sProp 𝕄 :=
  iprop((bigSep Finset.univ fun ck : Dev nD × Cell => cellInv ER (sched m ρ) (K ck) (kcell ck))
    ∗ bigSep Finset.univ fun ck : Dev nD × Cell => reached ER (kcell ck) 0)

instance records_persistent (K : Dev nD × Cell → ℕ) : BI.Persistent (records m ρ K) := by unfold records; infer_instance

omit [FloatOps F] in
theorem records_inv (K : Dev nD × Cell → ℕ) (c : Dev nD) (k : Cell) :
    records m ρ K ⊢ cellInv ER (sched m ρ) (K (c, k)) ((c : Thread nD τ), csem k) := by
  unfold records
  iintro ⟨H, -⟩
  have h : (bigSep Finset.univ fun ck : Dev nD × Cell => (cellInv ER (sched m ρ) (K ck) (kcell ck) : sProp 𝕄))
      ⊢ cellInv ER (sched m ρ) (K (c, k)) (kcell (c, k)) := bigSep_elim (Finset.mem_univ (c, k))
  iapply h; iexact H
omit [FloatOps F] in
theorem records_reached (K : Dev nD × Cell → ℕ) (c : Dev nD) (k : Cell) :
    records m ρ K ⊢ reached ER ((c : Thread nD τ), csem k) 0 := by
  unfold records
  iintro ⟨-, H⟩
  have h : (bigSep Finset.univ fun ck : Dev nD × Cell => (reached ER (kcell ck) 0 : sProp 𝕄))
      ⊢ reached ER (kcell (c, k)) 0 := bigSep_elim (Finset.mem_univ (c, k))
  iapply h; iexact H

/-- What a device holds for a flight it has yet to send, after `r` arrivals: the right to complete the flight at both ends, the
    rows it lands in, and, once they are there, the rows it carries. -/
def toSend (c : Dev nD) (r : ℕ) (k : Flight) : sProp 𝕄 :=
  iprop(dutyTok ER (sendCell c k) 0 .y ∗ dutyTok ER (recvCell (across k.axis c) k) 0 .y
    ∗ (∃ f, rows (F := F) (across k.axis c) k fullShare f) ∗ if k.need ≤ r then carried m ρ c k else iprop(emp))

/-- What it holds for a flight it sends, after `s` sends, `r` arrivals and `w` sends seen off. -/
def sending (c : Dev nD) (s r w : ℕ) (k : Flight) : sProp 𝕄 :=
  if k.rank < w then iprop(atPos ER (sendCell c k) 1 ∅ 0 ∗ carried m ρ c k)
  else iprop(atPos ER (sendCell c k) 0 ∅ 0 ∗ if k.rank < s then cred (tallyAt (sendCell c k) () N) else toSend m ρ c r k)

/-- What it holds for a flight it receives, after `r` arrivals. -/
def receiving (c : Dev nD) (r : ℕ) (k : Flight) : sProp 𝕄 :=
  if k.due < r then iprop(atPos ER (recvCell c k) 1 ∅ 0 ∗ if 16 ≤ k.due then rows c k fullShare (result m ρ c) else iprop(emp))
  else iprop(cred (tallyAt (recvCell c k) () N) ∗ atPos ER (recvCell c k) 0 ∅ 0)

/-- A device's state in the relay, after `p.1` sends, `p.2.1` arrivals and `p.2.2` sends seen off. -/
def state (K : Dev nD × Cell → ℕ) (c : Dev nD) (p : ℕ × ℕ × ℕ) : sProp 𝕄 :=
  iprop(records m ρ K ∗ levAts L lv ∗ (∃ W, owes (c : Thread nD τ) (debts c p.1) W)
    ∗ (bigSep Finset.univ fun k => sending m ρ c p.1 p.2.1 p.2.2 k) ∗ bigSep Finset.univ fun k => receiving m ρ c p.2.1 k)

/-- Running on device `c`. -/
abbrev exec (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## The three kinds of step -/

theorem land_credit (d : Dev nD) (k : Flight) : (landRef d k).view.dmaCredit = N := by rw [landRef_eq]; rfl
theorem src_credit (d : Dev nD) (k : Flight) : (srcRef d k).view.dmaCredit = N := by
  cases k <;> rfl

/-- One transfer to a neighbour: it takes the rows carried and the rows landed in, and pays the arrival off. -/
theorem exec_send (K : Dev nD × Cell → ℕ) (c n : Dev nD) (k : Flight) (hn : n = across k.axis c)
    (src dst : Memref sig .tc .vmem S64x512 .f32) (q : PosShare TreeShare) (fs : Buf (Elt F) (src.view.loc (c : Thread nD τ)))
    (hc : carried m ρ c k = (src.view.loc (c : Thread nD τ) ↦[src.view.set]{q} fs)) (hd : dst = chunkM n k)
    (hv : ∀ fd : (cc0_stg1_0 : Ref sig .tc).ty.Contents (Elt F), ∀ i ∈ chunkSet n k,
      (chunkM n k).view.write (Elt F) fd (src.view.read (Elt F) fs) Finset.univ i = result m ρ n i)
    {hsc : dst.view.ref.isScScratch = false} {hsrc : src.view.WordExact} {hdst : dst.view.WordExact}
    {hsem : DmaTarget.Typed .vmem (.dma (recvS k)) (.remote (Dev.tc n : Thread nD τ) dst (.dma (sendS k)) hsc)}
    (cont : PUnit → Prog (TpuEff nD τ sig (Elt F) Λ₀ .tc) PUnit) (Q : PUnit → sProp 𝕄) (W : Waits sig Unit)
    (fd : (cc0_stg1_0 : Ref sig .tc).ty.Contents (Elt F)) :
    iprop(records m ρ K ∗ carried m ρ c k ∗ rows n k fullShare fd ∗ owes (c : Thread nD τ) (debts c k.rank) W
        ∗ dutyTok ER (sendCell c k) 0 .y ∗ dutyTok ER (recvCell n k) 0 .y)
      ⊢ iprop(((cred (tallyAt (sendCell c k) () N) ∗ owes (c : Thread nD τ) (debts c (k.rank + 1)) W) -∗ exec c (cont ⟨⟩) Q)
          -∗ exec c (.op (.enqueueDma src (.remote (Dev.tc n : Thread nD τ) dst (.dma (sendS k)) hsc) (.dma (recvS k)) hsrc hdst hsem) cont) Q) := by
  subst hd
  rw [hc]
  iintro ⟨#HR, Hs, Hd, HO, Ht1, Ht2⟩
  iapply (Rounds.wp_send_pointsTo (Q := Q) (k := cont) 𝒱₀ ER (sched m ρ) (c : Thread nD τ) none (κ₁ := K (c, .inr (.inr (.inl k)))) (κ₂ := K (n, .inr (.inr (.inr k))))
    (c' := (n : Thread nD τ)) (src := src) (dst := chunkM n k) (hsc := hsc) (hsrc := hsrc) (hdst := hdst) (hsem := hsem) (q := q) (fs := fs) (fd := fd) (defs := defs₀ (F := F))
    (r₁ := 0) (r₂ := 0) (d₁ := .y) (d₂ := .y)
    (by rw [show ((c : Thread nD τ), SemLoc.dma (sendS k)) = ownCell c (.inr (.inl k)) from rfl, duties_own]; exact Finset.mem_singleton_self _)
    (by rw [show ((n : Thread nD τ), SemLoc.dma (recvS k)) = ownCell n (.inr (.inr k)) from rfl, duties_own]; exact Finset.mem_singleton_self _)
    () () N rfl (amount_own m ρ c (.inr (.inl k)) .y) (amount_own m ρ n (.inr (.inr k)) .y) (debts c (k.rank + 1)) (by rw [hn]; exact debts_send c k) (O₀ := debts c k.rank) (W := W)
    (by rw [show ((c : Thread nD τ), SemLoc.dma (sendS k)) = ownCell c (.inr (.inl k)) from rfl, payload_own, ← hc]; exact Entails.refl _)
    (by
      rw [show ((n : Thread nD τ), SemLoc.dma (recvS k)) = ownCell n (.inr (.inr k)) from rfl, payload_own]
      exact Entails.of_eq (pointsTo_congr (hv fd))))
  isplitr; · iapply (records_inv m ρ K c (.inr (.inr (.inl k)))); iexact HR
  isplitr; · iapply (records_inv m ρ K n (.inr (.inr (.inr k)))); iexact HR
  isplitl [Hs]; · iexact Hs
  isplitl [Hd]; · unfold rows chunkSet; iexact Hd
  isplitl [HO]; · iexact HO
  isplitl [Ht1]; · iexact Ht1
  isplitr; · iapply (records_reached m ρ K c (.inr (.inr (.inl k)))); iexact HR
  isplitl [Ht2]; · iexact Ht2
  iapply (records_reached m ρ K n (.inr (.inr (.inr k)))); iexact HR

omit [FloatOps F] in
/-- The rows a flight carries, as the source its transfer names, and what it writes. -/
theorem carried_src (c : Dev nD) (k : Flight) :
    ∃ (q : PosShare TreeShare) (fs : Buf (Elt F) ((srcRef c k).view.loc (c : Thread nD τ))),
      (carried m ρ c k : sProp 𝕄) = ((srcRef c k).view.loc (c : Thread nD τ) ↦[(srcRef c k).view.set]{q} fs)
        ∧ ∀ fd : (cc0_stg1_0 : Ref sig .tc).ty.Contents (Elt F), ∀ i ∈ chunkSet (across k.axis c) k,
          (chunkM (across k.axis c) k).view.write (Elt F) fd ((srcRef c k).view.read (Elt F) fs) Finset.univ i
            = result m ρ (across k.axis c) i := by
  by_cases h : k.need = 0
  · obtain ⟨r, rfl⟩ : ∃ r, k = .y r := by revert h; revert k; decide +kernel
    exact ⟨fullShare.left, xstg m ρ c, rfl, fun fd => write_y (xstg m ρ) c r fd⟩
  · have hw : ∀ fd : (cc0_stg1_0 : Ref sig .tc).ty.Contents (Elt F), ∀ i ∈ chunkSet (across k.axis c) k,
        (chunkM (across k.axis c) k).view.write (Elt F) fd ((chunkM c k.parent).view.read (Elt F) (result m ρ c)) Finset.univ i
          = result m ρ (across k.axis c) i := by
      intro fd i hi
      have e : (![64 * blk (across k.axis c) k, 0] : Fin 2 → ℕ) = ![64 * blk c k.parent, 0] := by rw [blk_parent c k h]
      have hgen : ∀ (off : Fin 2 → ℕ) (hb : ∀ a, off a + S64x512.size a ≤ S4096x512.size a), off = ![64 * blk c k.parent, 0] →
          ∀ i ∈ (oRows off hb).view.set, (oRows off hb).view.write (Elt F) fd ((chunkM c k.parent).view.read (Elt F) (result m ρ c)) Finset.univ i
            = result m ρ (across k.axis c) i := by
        intro off hb ho; subst ho
        exact fun i hi => write_hop (xstg m ρ) c k h fd i hi
      exact hgen ![64 * blk (across k.axis c) k, 0] (blkRows_inb (across k.axis c) k) e i hi
    rw [srcRef_eq c k h]
    cases k with
    | y r => exact absurd rfl h
    | xf r => exact ⟨fullShare.left, result m ρ c, rfl, hw⟩
    | zf r => exact ⟨fullShare.right, result m ρ c, rfl, hw⟩
    | xd r => exact ⟨fullShare, result m ρ c, rfl, hw⟩
    | zd r => exact ⟨fullShare, result m ρ c, rfl, hw⟩

/-- Sending the next flight, its rows being there. -/
theorem step_send (K : Dev nD × Cell → ℕ) (c : Dev nD) (k : Flight) (s r : ℕ) (hs : k.rank = s) (hr : k.need ≤ r)
    (cont : PUnit → Prog (TpuEff nD τ sig (Elt F) Λ₀ .tc) PUnit) (Q : PUnit → sProp 𝕄) :
    state m ρ K c (s, r, 0) ⊢ iprop((state m ρ K c (s + 1, r, 0) -∗ exec c (cont ⟨⟩) Q) -∗ exec c (.op (Step.eff c (.send k)) cont) Q) := by
  subst hs
  obtain ⟨q, fs, hc, hv⟩ := carried_src m ρ c k
  have hne : ∀ j : Flight, j ≠ k → sending m ρ c (k.rank + 1) r 0 j = sending m ρ c k.rank r 0 j := fun j hj => by
    have : j.rank ≠ k.rank := fun h => hj (Flight.rank_injective h)
    unfold sending
    rw [if_neg (Nat.not_lt_zero _), if_neg (Nat.not_lt_zero _)]
    by_cases h : j.rank < k.rank
    · rw [if_pos h, if_pos (by omega)]
    · rw [if_neg h, if_neg (by omega)]
  unfold state
  iintro ⟨#HR, Hlev, ⟨%W, HO⟩, HS, HV⟩ Hk
  ihave ⟨Hm, Hback⟩ := (bigSep_univ_update (Ψ := fun j => sending m ρ c (k.rank + 1) r 0 j) k hne) $$ HS
  have hm : sending m ρ c k.rank r 0 k ⊢ iprop(atPos ER (sendCell c k) 0 ∅ 0 ∗ toSend m ρ c r k) := by
    unfold sending; rw [if_neg (Nat.not_lt_zero _), if_neg (lt_irrefl _)]
  ihave Hm := hm $$ Hm
  unfold toSend
  rw [if_pos hr, ← devOf_eq]
  icases Hm with ⟨Hat, Ht1, Ht2, ⟨%f, Hd⟩, Hc⟩
  have hx := exec_send m ρ K c (devOf k.axis c) k (devOf_eq _ _) (srcRef c k) (dstRef c k) q fs hc (by rw [devOf_eq]; exact dstRef_eq c k) (by rw [devOf_eq]; exact hv)
    (hsc := rfl) (hsrc := View.wordExact_bits rfl) (hdst := View.wordExact_bits rfl) (hsem := ⟨⟨rfl, Or.inl rfl⟩, trivial⟩) cont Q W f
  iapply hx $$ [Hc Hd HO Ht1 Ht2]
  · isplitr; · iexact HR
    isplitl [Hc]; · iexact Hc
    isplitl [Hd]; · iexact Hd
    isplitl [HO]; · iexact HO
    isplitl [Ht1] <;> iassumption
  iintro ⟨Hcr, HO⟩
  iapply Hk
  isplitr; · iexact HR
  isplitl [Hlev]; · iexact Hlev
  isplitl [HO]; · iexists W; iexact HO
  isplitr [HV]
  · iapply Hback
    unfold sending
    rw [if_neg (Nat.not_lt_zero _), if_pos (Nat.lt_succ_self _)]
    isplitl [Hat] <;> iassumption
  iexact HV

/-- Waiting for the next arrival: it brings the flight's rows, which are kept or handed on. -/
theorem step_recv (K : Dev nD × Cell → ℕ) (c : Dev nD) (k : Flight) (s r : ℕ) (hr : k.due = r) (hl : ∀ j : Flight, s ≤ j.rank → k.level < j.level)
    (hu : ∀ j : Flight, j.need = r + 1 → s ≤ j.rank)
    (cont : PUnit → Prog (TpuEff nD τ sig (Elt F) Λ₀ .tc) PUnit) (Q : PUnit → sProp 𝕄) :
    state m ρ K c (s, r, 0) ⊢ iprop((state m ρ K c (s, r + 1, 0) -∗ exec c (cont ⟨⟩) Q) -∗ exec c (.op (Step.eff c (.recv k)) cont) Q) := by
  subst hr
  have hne : ∀ j : Flight, j ≠ k → receiving m ρ c (k.due + 1) j = receiving m ρ c k.due j := fun j hj => by
    have : j.due ≠ k.due := fun h => hj (Flight.due_injective h)
    unfold receiving
    by_cases h : j.due < k.due
    · rw [if_pos h, if_pos (by omega)]
    · rw [if_neg h, if_neg (by omega)]
  have hm : receiving m ρ c k.due k ⊢ iprop(cred (tallyAt (recvCell c k) () N) ∗ atPos ER (recvCell c k) 0 ∅ 0) := by
    unfold receiving; rw [if_neg (lt_irrefl _)]
  have hadd : iprop((bigSep Finset.univ fun j : Flight => if j.need = k.due + 1 then carried m ρ c j else iprop(emp))
      ∗ bigSep Finset.univ fun j => sending m ρ c s k.due 0 j) ⊢ bigSep Finset.univ fun j => sending m ρ c s (k.due + 1) 0 j := by
    rw [← bigSep_sep']
    refine bigSep_mono fun j _ => ?_
    unfold sending
    rw [if_neg (Nat.not_lt_zero _), if_neg (Nat.not_lt_zero _)]
    by_cases hj : j.need = k.due + 1
    · rw [if_pos hj, if_neg (by have := hu j hj; omega), if_neg (by have := hu j hj; omega)]
      unfold toSend
      rw [if_neg (by omega : ¬ j.need ≤ k.due), if_pos (by omega : j.need ≤ k.due + 1)]
      show (_ : sProp 𝕄) ⊢ _
      iintro ⟨Hc, Hat, Ht1, Ht2, Hd, -⟩
      isplitl [Hat]; · iexact Hat
      isplitl [Ht1]; · iexact Ht1
      isplitl [Ht2]; · iexact Ht2
      isplitl [Hd] <;> iassumption
    · rw [if_neg hj]
      by_cases hs : j.rank < s
      · rw [if_pos hs, if_pos hs]
        show (_ : sProp 𝕄) ⊢ _
        iintro ⟨-, H⟩; iexact H
      · rw [if_neg hs, if_neg hs]
        have e : (j.need ≤ k.due) ↔ (j.need ≤ k.due + 1) := by omega
        unfold toSend
        simp only [e]
        show (_ : sProp 𝕄) ⊢ _
        iintro ⟨-, H⟩; iexact H
  have hpay : (bigSep ((sched m ρ).duties (recvCell c k) 0 \ ∅) fun a => (sched m ρ).payload (recvCell c k) 0 a) = rows c k fullShare (result m ρ c) :=
    rest_own m ρ c (.inr (.inr k))
  have hw : (landRef c k).view.dmaCredit = N := land_credit c k
  unfold state
  show _ ⊢ iprop((_ -∗ _) -∗ exec c (.op (.waitDma2 (recvS k) anyRows (landRef c k) (View.wordExact_bits rfl) (View.wordExact_bits rfl)) cont) Q)
  iintro ⟨#HR, #Hlev, ⟨%W, HO⟩, HS, HV⟩ Hk
  ihave ⟨Hm, Hback⟩ := (bigSep_univ_update (Ψ := fun j => receiving m ρ c (k.due + 1) j) k hne) $$ HV
  ihave ⟨Hcr, Hat⟩ := hm $$ Hm
  rw [← hw]
  iapply (Rounds.wp_wait_rest_token 𝒱₀ ER (sched m ρ) (c : Thread nD τ) none (κ := K (c, .inr (.inr (.inr k)))) (wpE_waitDma2_eq 𝒱₀ (c : Thread nD τ) none Set.univ)
    (Set.mem_univ _) () (O := debts c s) (W := W) (R := 0) (m := 0) (T := ∅)
    (show 0 + (landRef c k).view.dmaCredit = (sched m ρ).expect (recvCell c k) 0 by rw [Nat.zero_add, hw]; exact (expect_own m ρ c (.inr (.inr k))).symm)) $$ [Hcr HO Hat]
  · isplitr; · iapply (records_inv m ρ K c (.inr (.inr (.inr k)))); iexact HR
    isplitl [Hcr]; · iexact Hcr
    isplitl [HO]; · iexact HO
    isplitr
    · iapply (mayWait_debts c (.dma (recvS k)) s k.level (le_of_eq (lv_recv c k ())) hl); iexact Hlev
    iexact Hat
  rw [hpay]
  iintro ⟨HO, Hat, -, Hp⟩
  ihave ⟨Hkeep, Hnext⟩ := (hand_on m ρ c k) $$ Hp
  iapply Hk
  isplitr; · iexact HR
  isplitr; · iexact Hlev
  isplitl [HO]; · iexists _; iexact HO
  isplitl [HS Hnext]
  · iapply hadd; isplitl [Hnext] <;> iassumption
  iapply Hback
  unfold receiving
  rw [if_pos (Nat.lt_succ_self _)]
  isplitl [Hat] <;> iassumption

/-- Seeing the next send off, all flights being sent: what it carried comes back. -/
theorem step_sent (K : Dev nD × Cell → ℕ) (c : Dev nD) (k : Flight) (r w : ℕ) (hw : k.rank = w)
    (cont : PUnit → Prog (TpuEff nD τ sig (Elt F) Λ₀ .tc) PUnit) (Q : PUnit → sProp 𝕄) :
    state m ρ K c (32, r, w) ⊢ iprop((state m ρ K c (32, r, w + 1) -∗ exec c (cont ⟨⟩) Q) -∗ exec c (.op (Step.eff c (.sent k)) cont) Q) := by
  subst hw
  have hne : ∀ j : Flight, j ≠ k → sending m ρ c 32 r (k.rank + 1) j = sending m ρ c 32 r k.rank j := fun j hj => by
    have : j.rank ≠ k.rank := fun h => hj (Flight.rank_injective h)
    unfold sending
    by_cases h : j.rank < k.rank
    · rw [if_pos h, if_pos (by omega)]
    · rw [if_neg h, if_neg (by omega)]
  have hm : sending m ρ c 32 r k.rank k ⊢ iprop(atPos ER (sendCell c k) 0 ∅ 0 ∗ cred (tallyAt (sendCell c k) () N)) := by
    unfold sending; rw [if_neg (lt_irrefl _), if_pos k.rank_lt]
  have hpay : (bigSep ((sched m ρ).duties (sendCell c k) 0 \ ∅) fun a => (sched m ρ).payload (sendCell c k) 0 a) = carried m ρ c k :=
    rest_own m ρ c (.inr (.inl k))
  have hw : (srcRef c k).view.dmaCredit = N := src_credit c k
  unfold state
  show _ ⊢ iprop((_ -∗ _) -∗ exec c (.op (.waitDma2 (sendS k) (dstRef c k) (srcRef c k) (View.wordExact_bits rfl) (View.wordExact_bits rfl)) cont) Q)
  rw [show debts c (32, r, k.rank).1 = 0 from debts_end c]
  iintro ⟨#HR, #Hlev, ⟨%W, HO⟩, HS, HV⟩ Hk
  ihave ⟨Hm, Hback⟩ := (bigSep_univ_update (Ψ := fun j => sending m ρ c 32 r (k.rank + 1) j) k hne) $$ HS
  ihave ⟨Hat, Hcr⟩ := hm $$ Hm
  rw [← hw]
  iapply (Rounds.wp_wait_rest_token 𝒱₀ ER (sched m ρ) (c : Thread nD τ) none (κ := K (c, .inr (.inr (.inl k)))) (wpE_waitDma2_eq 𝒱₀ (c : Thread nD τ) none Set.univ)
    (Set.mem_univ _) () (O := 0) (W := W) (R := 0) (m := 0) (T := ∅)
    (show 0 + (srcRef c k).view.dmaCredit = (sched m ρ).expect (sendCell c k) 0 by rw [Nat.zero_add, hw]; exact (expect_own m ρ c (.inr (.inl k))).symm)) $$ [Hcr HO Hat]
  · isplitr; · iapply (records_inv m ρ K c (.inr (.inr (.inl k)))); iexact HR
    isplitl [Hcr]; · iexact Hcr
    isplitl [HO]; · iexact HO
    isplitr; · rw [MayWait_zero]; iempintro
    iexact Hat
  rw [hpay]
  iintro ⟨HO, Hat, -, Hp⟩
  iapply Hk
  isplitr; · iexact HR
  isplitr; · iexact Hlev
  isplitl [HO]; · iexists _; iexact HO
  isplitr [HV]
  · iapply Hback
    unfold sending
    rw [if_pos (Nat.lt_succ_self _)]
    isplitl [Hat] <;> iassumption
  iexact HV

/-! ## Whole stretches -/

/-- Where a step leads, if its conditions hold: sends, arrivals and sends seen off each come in their order; nothing is sent
    before it has arrived; an arrival is waited for only while owing nothing but later ones. -/
def Step.next (p : ℕ × ℕ × ℕ) : Step → Option (ℕ × ℕ × ℕ)
  | .send k => if k.rank = p.1 ∧ k.need ≤ p.2.1 ∧ p.2.2 = 0 then some (p.1 + 1, p.2.1, 0) else none
  | .recv k => if k.due = p.2.1 ∧ (∀ j : Flight, p.1 ≤ j.rank → k.level < j.level) ∧ (∀ j : Flight, j.need = p.2.1 + 1 → p.1 ≤ j.rank) ∧ p.2.2 = 0
      then some (p.1, p.2.1 + 1, 0) else none
  | .sent k => if k.rank = p.2.2 ∧ p.1 = 32 then some (32, p.2.1, p.2.2 + 1) else none
  | _ => none

/-- Where a list of steps leads. -/
def follow (p : ℕ × ℕ × ℕ) : List Step → Option (ℕ × ℕ × ℕ)
  | [] => some p
  | a :: l => (a.next p).bind fun p' => follow p' l

/-- One step, under its conditions. -/
theorem step_sound (K : Dev nD × Cell → ℕ) (c : Dev nD) (a : Step) (p p' : ℕ × ℕ × ℕ) (h : a.next p = some p')
    (cont : PUnit → Prog (TpuEff nD τ sig (Elt F) Λ₀ .tc) PUnit) (Q : PUnit → sProp 𝕄) :
    state m ρ K c p ⊢ iprop((state m ρ K c p' -∗ exec c (cont ⟨⟩) Q) -∗ exec c (.op (a.eff c) cont) Q) := by
  obtain ⟨s, r, w⟩ := p
  cases a with
  | send k =>
    simp only [Step.next, Option.ite_none_right_eq_some, Option.some.injEq] at h
    obtain ⟨⟨h1, h2, rfl⟩, rfl⟩ := h
    exact step_send m ρ K c k s r h1 h2 cont Q
  | recv k =>
    simp only [Step.next, Option.ite_none_right_eq_some, Option.some.injEq] at h
    obtain ⟨⟨h1, h2, h3, rfl⟩, rfl⟩ := h
    exact step_recv m ρ K c k s r h1 h2 h3 cont Q
  | sent k =>
    simp only [Step.next, Option.ite_none_right_eq_some, Option.some.injEq] at h
    obtain ⟨⟨h1, rfl⟩, rfl⟩ := h
    exact step_sent m ρ K c k r w h1 cont Q
  | signal a => cases h
  | meet => cases h
  | copy => cases h
  | copied => cases h

/-- A stretch of the relay leads from state to state. -/
theorem stretch (K : Dev nD × Cell → ℕ) (c : Dev nD) (l rest : List Step) (p p' : ℕ × ℕ × ℕ) (h : follow p l = some p') (Q : PUnit → sProp 𝕄) :
    state m ρ K c p ⊢ iprop((state m ρ K c p' -∗ exec c (run c rest) Q) -∗ exec c (run c (l ++ rest)) Q) := by
  induction l generalizing p with
  | nil =>
    cases h
    iintro Hs Hk
    iapply Hk; iexact Hs
  | cons a l ih =>
    obtain ⟨p₁, h₁, h₂⟩ := Option.bind_eq_some_iff.mp h
    have hs := step_sound m ρ K c a p p₁ h₁ (fun _ => run c (l ++ rest)) Q
    show _ ⊢ iprop(_ -∗ exec c (.op (a.eff c) fun _ => run c (l ++ rest)) Q)
    iintro Hs Hk
    iapply hs $$ [Hs]; · iexact Hs
    iintro Hs
    iapply (ih p₁ h₂) $$ [Hs]; · iexact Hs
    iexact Hk

/-- The opening sends the eight flights across y; -/
theorem follow_opening : follow (0, 0, 0) opening = some (8, 0, 0) := by decide +kernel
/-- the relay sends the rest, receives all and sees all off. -/
theorem follow_relay : follow (8, 0, 0) relay = some (32, 32, 32) := by decide +kernel

end Cert.GatherProof

end
-- ==== Proof.Buffers.lean ====
/- A device's two buffers and its cells, dealt out to its flights at the start of the body and put together again at its end. -/
module

public import proofs.«01_k».proof.Proof.Steps

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (m : (ℓ : Loc nD τ sig) → Buf (Elt F) ℓ) (ρ : Dev nD → PrngReg)

/-! ## Conjunctions over the flights, by kind -/

/-- A flight is of one of the five kinds. -/
def kinds : (Fin 8 ⊕ Fin 8 ⊕ Fin 8 ⊕ Fin 4 ⊕ Fin 4) ≃ Flight where
  toFun
    | .inl r => .y r
    | .inr (.inl r) => .xf r
    | .inr (.inr (.inl r)) => .zf r
    | .inr (.inr (.inr (.inl r))) => .xd r
    | .inr (.inr (.inr (.inr r))) => .zd r
  invFun
    | .y r => .inl r
    | .xf r => .inr (.inl r)
    | .zf r => .inr (.inr (.inl r))
    | .xd r => .inr (.inr (.inr (.inl r)))
    | .zd r => .inr (.inr (.inr (.inr r)))
  left_inv := by rintro (r | r | r | r | r) <;> rfl
  right_inv := by rintro (r | r | r | r | r) <;> rfl

/-- A chunk is a lower or an upper one. -/
def halves : (Fin 4 ⊕ Fin 4) ≃ Fin 8 where
  toFun := Sum.elim Flight.lower Flight.upper
  invFun r := if h : r.val < 4 then .inl ⟨r.val, h⟩ else .inr ⟨r.val - 4, by omega⟩
  left_inv := by decide +kernel
  right_inv := by decide +kernel

theorem by_kind (Φ : Flight → sProp 𝕄) :
    bigSep Finset.univ Φ = iprop((bigSep Finset.univ fun r => Φ (.y r)) ∗ (bigSep Finset.univ fun r => Φ (.xf r))
      ∗ (bigSep Finset.univ fun r => Φ (.zf r)) ∗ (bigSep Finset.univ fun r => Φ (.xd r)) ∗ bigSep Finset.univ fun r => Φ (.zd r)) := by
  rw [bigSep_univ_equiv kinds, bigSep_univ_sum, bigSep_univ_sum, bigSep_univ_sum, bigSep_univ_sum]
  rfl

theorem by_half (Φ : Fin 8 → sProp 𝕄) :
    bigSep Finset.univ Φ = iprop((bigSep Finset.univ fun r => Φ (Flight.lower r)) ∗ bigSep Finset.univ fun r => Φ (Flight.upper r)) := by
  rw [bigSep_univ_equiv halves, bigSep_univ_sum]
  rfl

theorem over_cells (Φ : Cell → sProp 𝕄) :
    bigSep Finset.univ Φ = iprop(Φ (.inl ()) ∗ Φ (.inr (.inl ())) ∗ (bigSep Finset.univ fun k : Flight => Φ (.inr (.inr (.inl k))))
      ∗ bigSep Finset.univ fun k : Flight => Φ (.inr (.inr (.inr k)))) := by
  rw [bigSep_univ_sum, bigSep_univ_sum, bigSep_univ_sum, Finset.univ_unique, bigSep_singleton, bigSep_singleton]
  rfl

theorem over_axes (Φ : Axis → sProp 𝕄) : bigSep Finset.univ Φ = iprop(Φ .y ∗ Φ .x ∗ Φ .z) :=
  bigSep_univ_eq_bigSepL [Axis.y, Axis.x, Axis.z] (by decide) (by decide) Φ

/-! ## The input -/

/-- An index's row of the input. -/
abbrev inRow (i : S2048x512.Idx) : ℕ := (i 0).val

theorem in_row (d : Dev nD) (r : Fin 8) (i : S2048x512.Idx) (hi : i ∈ inSet d r) : inRow i / 64 = blk (across .y d) (.y r) % 32 := by
  obtain ⟨j, -, rfl⟩ := Finset.mem_map.mp hi
  have hj0 : (j 0).val < 64 := (j 0).isLt
  have e : inRow ((srcRef d (.y r)).view.emb j) = 64 * (blk (across .y d) (.y r) % 32) + (j 0).val :=
    (ValueKit.view_emb_slice_whole_unit_val cc0_stg0_0 _ S64x512.size (k0_off2_inb d r) j 0).trans
      (congrArg (fun o : Fin 2 → ℕ => o 0 + (j 0).val) (org_y d r).2)
  show inRow ((srcRef d (.y r)).view.emb j) / 64 = _
  omega

theorem in_block_injective : ∀ (d : Dev nD) (r r' : Fin 8), blk (across .y d) (.y r) % 32 = blk (across .y d) (.y r') % 32 → r = r' := by
  decide +kernel

/-- Different `y` flights carry different rows of the input. -/
theorem in_disjoint (d : Dev nD) {r r' : Fin 8} (h : r ≠ r') : Disjoint (inSet d r) (inSet d r') :=
  Finset.disjoint_left.mpr fun i hi hi' => h (in_block_injective d r r' ((in_row d r i hi).symm.trans (in_row d r' i hi')))

/-- The rows of the input that the `y` flights carry. -/
def sentSet (d : Dev nD) : Finset S2048x512.Idx := Finset.univ.biUnion (inSet d)

/-- The half share of the input the flights use: what they carry, and the rest. -/
def spare (c : Dev nD) : sProp 𝕄 := inLoc c ↦[Finset.univ \ sentSet c]{fullShare.left} xstg m ρ c

/-- The staged input: a half share for the copy, and of the other half what each `y` flight carries and the rest. -/
theorem in_split (c : Dev nD) : (inLoc c ↦{fullShare} xstg m ρ c : sProp 𝕄)
    = iprop((inLoc c ↦{fullShare.right} xstg m ρ c) ∗ (bigSep Finset.univ fun r => carried m ρ c (.y r)) ∗ spare m ρ c) := by
  have h1 : (inLoc c ↦{fullShare} xstg m ρ c : sProp 𝕄) ⊣⊢ iprop((inLoc c ↦{fullShare.left} xstg m ρ c) ∗ (inLoc c ↦{fullShare.right} xstg m ρ c)) :=
    pointsTo_share (PosShare.mem_left_op_right fullShare)
  have h2 : (inLoc c ↦{fullShare.left} xstg m ρ c : sProp 𝕄) ⊣⊢ iprop((inLoc c ↦[sentSet c]{fullShare.left} xstg m ρ c) ∗ spare m ρ c) :=
    pointsTo_split_subset (Finset.subset_univ (sentSet c))
  have h3 : (inLoc c ↦[sentSet c]{fullShare.left} xstg m ρ c : sProp 𝕄) = bigSep Finset.univ fun r => carried m ρ c (.y r) :=
    pointsTo_biUnion _ _ fun r _ r' _ h => in_disjoint c h
  rw [BI.equiv_iff.mp ⟨h1.1, h1.2⟩, BI.equiv_iff.mp ⟨h2.1, h2.2⟩, h3]
  refine BI.equiv_iff.mp ⟨?_, ?_⟩
  · show (_ : sProp 𝕄) ⊢ _
    iintro ⟨⟨H1, H2⟩, H3⟩
    isplitl [H3]; · iexact H3
    isplitl [H1] <;> iassumption
  · show (_ : sProp 𝕄) ⊢ _
    iintro ⟨H3, H1, H2⟩
    isplitr [H3]
    · isplitl [H1] <;> iassumption
    iexact H3

/-! ## The result -/

/-- The result buffer: the own half, and the rows of each arriving flight. -/
theorem out_split (c : Dev nD) (f : (cc0_stg1_0 : Ref sig .tc).ty.Contents (Elt F)) : (outLoc c ↦{fullShare} f : sProp 𝕄)
    = iprop((outLoc c ↦[ownSet c]{fullShare} f) ∗ bigSep Finset.univ fun k => rows c k fullShare f) := by
  have h1 : (outLoc c ↦[ownSet c ∪ otherSet c]{fullShare} f : sProp 𝕄) ⊣⊢ iprop((outLoc c ↦[ownSet c]{fullShare} f) ∗ outLoc c ↦[otherSet c]{fullShare} f) :=
    pointsTo_union (own_disjoint c)
  have h2 : (outLoc c ↦[otherSet c]{fullShare} f : sProp 𝕄) = bigSep Finset.univ fun k => rows c k fullShare f :=
    pointsTo_biUnion _ _ fun k _ k' _ h => chunk_disjoint c h
  rw [← h2, ← BI.equiv_iff.mp ⟨h1.1, h1.2⟩, own_union]

/-- What the device's three signals hand over: the rows of its result, by the axis their flight comes across. -/
theorem offer (c : Dev nD) (f : (cc0_stg1_0 : Ref sig .tc).ty.Contents (Elt F)) :
    (bigSep Finset.univ fun k => rows c k fullShare f : sProp 𝕄)
      ⊢ iprop(barPay (across .y c) .y ∗ barPay (across .x c) .x ∗ barPay (across .z c) .z) := by
  rw [sort_axis, ← over_axes (fun a => (barPay (across a c) a : sProp 𝕄))]
  refine bigSep_mono fun a _ => ?_
  unfold barPay
  refine bigSep_mono fun k _ => ?_
  by_cases h : k.axis = a
  · rw [if_pos h, if_pos h, across_across]
    show (_ : sProp 𝕄) ⊢ _
    iintro H; iexists f; iexact H
  · rw [if_neg h, if_neg h]
    exact BI.Entails.refl _

/-! ## The first and the last state -/

/-- What a device needs of its own for its flights before the first step: its positions, the rights to complete its flights at
    both ends, the rows they land in, the credit of the flights it receives, and the input rows it sends. -/
def flightKit (c : Dev nD) : sProp 𝕄 :=
  iprop((bigSep Finset.univ fun k => atPos ER (sendCell c k) 0 ∅ 0) ∗ (bigSep Finset.univ fun k => atPos ER (recvCell c k) 0 ∅ 0)
    ∗ (bigSep Finset.univ fun k => dutyTok ER (sendCell c k) 0 .y) ∗ (bigSep Finset.univ fun k : Flight => dutyTok ER (recvCell (across k.axis c) k) 0 .y)
    ∗ landings (F := F) c ∗ (bigSep Finset.univ fun k => cred (tallyAt (recvCell c k) () N)) ∗ bigSep Finset.univ fun r => carried m ρ c (.y r))

/-- The input rows go to the `y` flights. -/
theorem deal_in (c : Dev nD) : (bigSep Finset.univ fun r => carried m ρ c (.y r) : sProp 𝕄)
    ⊢ bigSep Finset.univ fun k : Flight => if k.need ≤ 0 then carried m ρ c k else iprop(emp) := by
  rw [by_kind fun k : Flight => if k.need ≤ 0 then carried m ρ c k else iprop(emp)]
  have none8 : (iprop(emp) : sProp 𝕄) ⊢ bigSep Finset.univ fun _ : Fin 8 => iprop(emp) := Entails.of_eq (bigSep_emp_const _).symm
  have none4 : (iprop(emp) : sProp 𝕄) ⊢ bigSep Finset.univ fun _ : Fin 4 => iprop(emp) := Entails.of_eq (bigSep_emp_const _).symm
  simp only [show ∀ r, (Flight.y r).need ≤ 0 from fun _ => le_refl 0, show ∀ r, ¬ (Flight.xf r).need ≤ 0 from fun _ => Nat.not_succ_le_zero _,
    show ∀ r, ¬ (Flight.zf r).need ≤ 0 from fun _ => Nat.not_succ_le_zero _, show ∀ r, ¬ (Flight.xd r).need ≤ 0 by decide,
    show ∀ r, ¬ (Flight.zd r).need ≤ 0 by decide, if_true, if_false]
  iintro H
  isplitl [H]; · iexact H
  isplitr; · iapply none8; iempintro
  isplitr; · iapply none8; iempintro
  isplitr; · iapply none4; iempintro
  iapply none4; iempintro

/-- Before the first step. -/
theorem first_state (c : Dev nD) : flightKit m ρ c
    ⊢ iprop((bigSep Finset.univ fun k => sending m ρ c 0 0 0 k) ∗ bigSep Finset.univ fun k => receiving m ρ c 0 k) := by
  unfold flightKit
  iintro ⟨HS, HV, Ht1, Ht2, HL, HC, HX⟩
  ihave HX := (deal_in m ρ c) $$ HX
  isplitr [HV HC]
  · unfold sending toSend landings
    simp only [Nat.not_lt_zero, if_false]
    rw [bigSep_sep', bigSep_sep', bigSep_sep', bigSep_sep']
    isplitl [HS]; · iexact HS
    isplitl [Ht1]; · iexact Ht1
    isplitl [Ht2]; · iexact Ht2
    isplitl [HL]; · iexact HL
    iexact HX
  · unfold receiving
    simp only [Nat.not_lt_zero, if_false]
    rw [bigSep_sep']
    isplitl [HC] <;> iassumption

theorem kept_xf : ∀ r : Fin 4, 16 ≤ (Flight.xf (Flight.lower r)).due ∧ ¬ 16 ≤ (Flight.xf (Flight.upper r)).due := by decide
theorem kept_zf : ∀ r : Fin 4, 16 ≤ (Flight.zf (Flight.upper r)).due ∧ ¬ 16 ≤ (Flight.zf (Flight.lower r)).due := by decide

/-- What the flights sent carried and what was kept make the whole result and the input rows sent. -/
theorem all_rows (c : Dev nD) :
    iprop((bigSep Finset.univ fun k => carried m ρ c k)
        ∗ bigSep Finset.univ fun k : Flight => if 16 ≤ k.due then rows c k fullShare (result m ρ c) else iprop(emp))
      ⊢ iprop((bigSep Finset.univ fun k => rows c k fullShare (result m ρ c)) ∗ bigSep Finset.univ fun r => carried m ρ c (.y r)) := by
  have hy : (iprop((bigSep Finset.univ fun r => carried m ρ c (.xf r)) ∗ bigSep Finset.univ fun r => carried m ρ c (.zf r)) : sProp 𝕄)
      ⊢ bigSep Finset.univ fun r : Fin 8 => rows c (.y r) fullShare (result m ρ c) := by
    rw [← bigSep_sep']
    exact bigSep_mono fun r _ => (pointsTo_share (PosShare.mem_left_op_right fullShare)).2
  rw [by_kind fun k => carried m ρ c k, by_kind fun k => rows c k fullShare (result m ρ c),
    by_kind fun k : Flight => if 16 ≤ k.due then rows c k fullShare (result m ρ c) else iprop(emp),
    by_half fun r => rows c (.xf r) fullShare (result m ρ c), by_half fun r => rows c (.zf r) fullShare (result m ρ c),
    by_half fun r => if 16 ≤ (Flight.xf r).due then rows c (.xf r) fullShare (result m ρ c) else iprop(emp),
    by_half fun r => if 16 ≤ (Flight.zf r).due then rows c (.zf r) fullShare (result m ρ c) else iprop(emp)]
  simp only [show ∀ r, 16 ≤ (Flight.xd r).due by decide, show ∀ r, 16 ≤ (Flight.zd r).due by decide,
    fun r => (kept_xf r).1, fun r => (kept_zf r).1, fun r => (kept_xf r).2, fun r => (kept_zf r).2, if_true, if_false]
  iintro ⟨⟨HY, Hxf, Hzf, Hxd, Hzd⟩, -, ⟨Kxl, -⟩, ⟨-, Kzu⟩, Kxd, Kzd⟩
  isplitr [HY]
  · isplitl [Hxf Hzf]
    · iapply hy; isplitl [Hxf] <;> iassumption
    isplitl [Kxl Hzd]
    · isplitl [Kxl]; · iexact Kxl
      unfold carried; iexact Hzd
    isplitl [Kzu Hxd]
    · isplitl [Hxd]; · unfold carried; iexact Hxd
      iexact Kzu
    isplitl [Kxd] <;> iassumption
  iexact HY

/-- After the last step. -/
theorem last_state (c : Dev nD) :
    iprop((bigSep Finset.univ fun k => sending m ρ c 32 32 32 k) ∗ bigSep Finset.univ fun k => receiving m ρ c 32 k)
      ⊢ iprop((bigSep Finset.univ fun k => atPos ER (sendCell c k) 1 ∅ 0) ∗ (bigSep Finset.univ fun k => atPos ER (recvCell c k) 1 ∅ 0)
        ∗ (bigSep Finset.univ fun k => rows c k fullShare (result m ρ c)) ∗ bigSep Finset.univ fun r => carried m ρ c (.y r)) := by
  unfold sending receiving
  simp only [Flight.rank_lt, Flight.due_lt, if_true]
  rw [bigSep_sep', bigSep_sep']
  iintro ⟨⟨HS, HC⟩, HV, HK⟩
  isplitl [HS]; · iexact HS
  isplitl [HV]; · iexact HV
  iapply (all_rows m ρ c)
  isplitl [HC] <;> iassumption

end Cert.GatherProof

end
-- ==== Proof.Body.lean ====
/- The body of the kernel on one device: the handshake on the barrier, the relay, the copy of the own half. -/
module

public import proofs.«01_k».proof.Proof.Buffers
public import Idealize.ShloMosaic.Lib.Rounds.Family

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The handshake -/

/-- A signal to the neighbour across an axis hands it the rows of the own result that its flights fill. -/
theorem step_signal (K : Dev nD × Cell → ℕ) (c : Dev nD) (a : Axis) (O₀ O : CellTallies nD τ sig Unit) (hO : O₀ = O + tallyAt (barCell (across a c)) () 1)
    (W : Waits sig Unit) (cont : PUnit → Prog (TpuEff nD τ sig (Elt F) Λ₀ .tc) PUnit) (Q : PUnit → sProp 𝕄) :
    iprop(records m ρ K ∗ owes (c : Thread nD τ) O₀ W ∗ dutyTok ER (barCell (across a c)) 0 a ∗ barPay (across a c) a)
      ⊢ iprop((owes (c : Thread nD τ) O W -∗ exec c (cont ⟨⟩) Q) -∗ exec c (.op (Step.eff c (.signal a)) cont) Q) := by
  show _ ⊢ iprop((_ -∗ _) -∗ exec c (.op (.semSignal (devOf a c, .tc) barS (1#32 : BitVec 32).toInt) cont) Q)
  rw [devOf_eq]
  iintro ⟨#HR, HO, Ht, Hp⟩
  iapply (Rounds.wp_signal 𝒱₀ ER (sched m ρ) (c : Thread nD τ) none (dst := (across a c : Thread nD τ)) (κ := K (across a c, .inl ())) (d := a)
    (by rw [duties_bar]; exact Finset.mem_univ _) ((amount_bar m ρ (across a c) a).trans (by decide)) () O hO)
  isplitr; · iapply (records_inv m ρ K (across a c) (.inl ())); iexact HR
  isplitl [HO]; · iexact HO
  isplitl [Ht]; · iexact Ht
  isplitl [Hp]; · rw [payload_bar]; iexact Hp
  iapply (records_reached m ρ K (across a c) (.inl ())); iexact HR

/-- The wait for the three neighbours' signals brings the rows the device's flights land in. -/
theorem step_meet (K : Dev nD × Cell → ℕ) (c : Dev nD) (W : Waits sig Unit)
    (cont : PUnit → Prog (TpuEff nD τ sig (Elt F) Λ₀ .tc) PUnit) (Q : PUnit → sProp 𝕄) :
    iprop(records m ρ K ∗ levAts L lv ∗ owes (c : Thread nD τ) (debts c 0) W ∗ cred (tallyAt (barCell c) () 3) ∗ atPos ER (barCell c) 0 ∅ 0)
      ⊢ iprop(((∃ W, owes (c : Thread nD τ) (debts c 0) W) ∗ atPos ER (barCell c) 1 ∅ 0 ∗ landings (F := F) c -∗ exec c (cont ⟨⟩) Q)
          -∗ exec c (.op (Step.eff c .meet) cont) Q) := by
  show _ ⊢ iprop((_ -∗ _) -∗ exec c (.op (.semWait barS (3#32 : BitVec 32).toInt) cont) Q)
  iintro ⟨#HR, #Hlev, HO, Hcr, Hat⟩ Hk
  iapply (Rounds.wp_wait_rest_token 𝒱₀ ER (sched m ρ) (c : Thread nD τ) none (κ := K (c, .inl ())) (wpE_semWait_eq 𝒱₀ (c : Thread nD τ) none Set.univ)
    (Set.mem_univ _) () (O := debts c 0) (W := W) (R := 0) (m := 0) (T := ∅) (by rw [expect_bar]; decide)) $$ [Hcr HO Hat]
  · isplitr; · iapply (records_inv m ρ K c (.inl ())); iexact HR
    isplitl [Hcr]; · iexact Hcr
    isplitl [HO]; · iexact HO
    isplitr; · iapply (mayWait_debts c (.reg barS) 0 1 (le_of_eq (lv_bar c ())) fun k _ => level_pos k); iexact Hlev
    iexact Hat
  rw [rest_bar]
  iintro ⟨HO, Hat, -, Hp⟩
  iapply Hk
  isplitl [HO]; · iexists _; iexact HO
  isplitl [Hat] <;> iassumption

/-! ## The copy -/

theorem own_credit (d : Dev nD) : (ownHalf d).view.dmaCredit = NC := rfl

/-- The copy of the own input takes the own half of the result and a half share of the input. -/
theorem step_copy (K : Dev nD × Cell → ℕ) (c : Dev nD) (f : (cc0_stg1_0 : Ref sig .tc).ty.Contents (Elt F))
    (cont : PUnit → Prog (TpuEff nD τ sig (Elt F) Λ₀ .tc) PUnit) (Q : PUnit → sProp 𝕄) :
    iprop(records m ρ K ∗ (inLoc c ↦{fullShare.right} xstg m ρ c) ∗ (outLoc c ↦[ownSet c]{fullShare} f) ∗ dutyTok ER (copyCell c) 0 .y)
      ⊢ iprop((cred (tallyAt (copyCell c) () NC) -∗ exec c (cont ⟨⟩) Q) -∗ exec c (.op (Step.eff c .copy) cont) Q) := by
  show _ ⊢ iprop((_ -∗ _) -∗ exec c (.op (.enqueueDma xM (.here (ownHalf c)) (.dma copyS) (Memref.isWhole_whole _).wordExact (View.wordExact_bits rfl) ⟨Or.inl rfl, trivial⟩) cont) Q)
  have hx : (inLoc c ↦{fullShare.right} xstg m ρ c : sProp 𝕄) = (xM.view.loc (c : Thread nD τ) ↦[xM.view.set]{fullShare.right} xstg m ρ c) := by
    rw [show xM.view.set = Finset.univ from View.set_whole _]
  iintro ⟨#HR, Hx, Ho, Ht⟩
  ihave Hx := (Entails.of_eq hx) $$ Hx
  iapply (Rounds.wp_copy_pointsTo 𝒱₀ ER (sched m ρ) (c : Thread nD τ) none (κ := K (c, .inr (.inl ()))) (sem := .dma copyS) (src := xM) (dst := ownHalf c) (q := fullShare.right) (fs := xstg m ρ c)
    (fd := f) (r := 0) (d := .y)
    (by rw [show ((c : Thread nD τ), SemLoc.dma copyS) = ownCell c (.inl ()) from rfl, duties_own]; exact Finset.mem_singleton_self _)
    () NC rfl (amount_own m ρ c (.inl ()) .y)
    (by
      rw [show ((c : Thread nD τ), SemLoc.dma copyS) = ownCell c (.inl ()) from rfl, payload_own, ← hx]
      exact sep_mono_left (Entails.of_eq (pointsTo_congr (write_own (xstg m ρ) c f)))))
  isplitr; · iapply (records_inv m ρ K c (.inr (.inl ()))); iexact HR
  isplitl [Hx]; · iexact Hx
  isplitl [Ho]; · unfold ownSet; iexact Ho
  isplitl [Ht]; · iexact Ht
  iapply (records_reached m ρ K c (.inr (.inl ()))); iexact HR

/-- The wait for the copy brings the own half, filled, and the share of the input back. -/
theorem step_copied (K : Dev nD × Cell → ℕ) (c : Dev nD) (W : Waits sig Unit)
    (cont : PUnit → Prog (TpuEff nD τ sig (Elt F) Λ₀ .tc) PUnit) (Q : PUnit → sProp 𝕄) :
    iprop(records m ρ K ∗ owes (c : Thread nD τ) 0 W ∗ cred (tallyAt (copyCell c) () NC) ∗ atPos ER (copyCell c) 0 ∅ 0)
      ⊢ iprop(((∃ W, owes (c : Thread nD τ) 0 W) ∗ atPos ER (copyCell c) 1 ∅ 0 ∗ (outLoc c ↦[ownSet c]{fullShare} result m ρ c) ∗ (inLoc c ↦{fullShare.right} xstg m ρ c)
            -∗ exec c (cont ⟨⟩) Q)
          -∗ exec c (.op (Step.eff c .copied) cont) Q) := by
  show _ ⊢ iprop((_ -∗ _) -∗ exec c (.op (.waitDma2 copyS xM (ownHalf c) (Memref.isWhole_whole _).wordExact (View.wordExact_bits rfl)) cont) Q)
  have hpay : (bigSep ((sched m ρ).duties (copyCell c) 0 \ ∅) fun a => (sched m ρ).payload (copyCell c) 0 a)
      = iprop((outLoc c ↦[ownSet c]{fullShare} result m ρ c) ∗ (inLoc c ↦{fullShare.right} xstg m ρ c)) := rest_own m ρ c (.inl ())
  have hw := own_credit c
  rw [← hw]
  iintro ⟨#HR, HO, Hcr, Hat⟩ Hk
  iapply (Rounds.wp_wait_rest_token 𝒱₀ ER (sched m ρ) (c : Thread nD τ) none (κ := K (c, .inr (.inl ()))) (wpE_waitDma2_eq 𝒱₀ (c : Thread nD τ) none Set.univ)
    (Set.mem_univ _) () (O := 0) (W := W) (R := 0) (m := 0) (T := ∅)
    (show 0 + (ownHalf c).view.dmaCredit = (sched m ρ).expect (copyCell c) 0 by rw [Nat.zero_add, hw]; exact (expect_own m ρ c (.inl ())).symm)) $$ [Hcr HO Hat]
  · isplitr; · iapply (records_inv m ρ K c (.inr (.inl ()))); iexact HR
    isplitl [Hcr]; · iexact Hcr
    isplitl [HO]; · iexact HO
    isplitr; · rw [MayWait_zero]; iempintro
    iexact Hat
  rw [hpay]
  iintro ⟨HO, Hat, -, Ho, Hx⟩
  iapply Hk
  isplitl [HO]; · iexists _; iexact HO
  isplitl [Hat]; · iexact Hat
  isplitl [Ho] <;> iassumption

/-! ## The whole body -/

/-- What a device starts the body with, beyond its buffers and what it owes: the records, the positions of its cells, the rights
    to complete the signals and transfers it makes, and the credit of its waits on the others. -/
def kit (K : Dev nD × Cell → ℕ) (c : Dev nD) : sProp 𝕄 :=
  iprop(records m ρ K ∗ (bigSep Finset.univ fun k : Cell => atPos ER (kcell (c, k)) 0 ∅ 0)
    ∗ (bigSep Finset.univ fun a : Axis => dutyTok ER (barCell (across a c)) 0 a) ∗ dutyTok ER (copyCell c) 0 .y
    ∗ (bigSep Finset.univ fun k => dutyTok ER (sendCell c k) 0 .y) ∗ bigSep Finset.univ fun k : Flight => dutyTok ER (recvCell (across k.axis c) k) 0 .y)

/-- The launch's credit: three signals and every arrival. -/
def credits (c : Dev nD) : sProp 𝕄 :=
  iprop(cred (tallyAt (barCell c) () 3) ∗ bigSep Finset.univ fun k => cred (tallyAt (recvCell c k) () N))

/-- All of a device's semaphores at zero, the cells given up. -/
def closed (c : Dev nD) : sProp 𝕄 := bigSep Finset.univ fun k : Cell => semVal (kcell (c, k)) 0

omit [FloatOps F] in
/-- Cells past their only round are given up. -/
theorem close_all (K : Dev nD × Cell → ℕ) (c : Dev nD) :
    iprop(records m ρ K ∗ bigSep Finset.univ fun k : Cell => atPos ER (kcell (c, k)) 1 ∅ 0) ⊢ (|={Set.univ}=> closed c : sProp 𝕄) := by
  refine BI.Entails.trans (bigSep_with_persistent (Ψ := fun k : Cell => iprop(cellInv ER (sched m ρ) (K (c, k)) (kcell (c, k)) ∗ atPos ER (kcell (c, k)) 1 ∅ 0)) fun k _ => ?_)
    (Rounds.cells_close ER (sched m ρ) Finset.univ (fun k : Cell => kcell (c, k)) (fun k => K (c, k)) (fun _ _ => Set.mem_univ _) (fun _ _ h => h) (fun _ => 1)
      fun k _ => duties_later m ρ (kcell (c, k)))
  show (_ : sProp 𝕄) ⊢ _
  iintro ⟨#HR, Hat⟩
  isplitr; · iapply (records_inv m ρ K c k); iexact HR
  iexact Hat

/-- The body: from its kit, the launch's credit, its input staged and a result buffer of any contents, device `c` ends with the result
    in the buffer, the input as it was, nothing owed and all its semaphores at zero. -/
theorem whole_body (K : Dev nD × Cell → ℕ) (c : Dev nD) (f : (cc0_stg1_0 : Ref sig .tc).ty.Contents (Elt F)) (W : Waits sig Unit) (Q : PUnit → sProp 𝕄) :
    iprop(kit m ρ K c ∗ credits (F := F) c ∗ levAts L lv ∗ owes (c : Thread nD τ) (owed c) W
        ∗ (inLoc c ↦{fullShare} xstg m ρ c) ∗ (outLoc c ↦{fullShare} f)
        ∗ (closed c ∗ (∃ W, owes (c : Thread nD τ) 0 W) ∗ (inLoc c ↦{fullShare} xstg m ρ c) ∗ (outLoc c ↦{fullShare} result m ρ c) -∗ Q ⟨⟩))
      ⊢ exec c (run c steps) Q := by
  unfold kit credits
  rw [in_split, out_split, over_axes, over_cells]
  simp only [kcell, csem, osem]
  iintro ⟨⟨#HR, ⟨HaB, HaC, HaS, HaV⟩, ⟨Hty, Htx, Htz⟩, HtC, HtS, HtV⟩, ⟨HcB, HcV⟩, #Hlev, HO, ⟨Hxr, Hxs, Hsp⟩, ⟨Hown, Hrows⟩, Hk⟩
  ihave ⟨Hpy, Hpx, Hpz⟩ := (offer (F := F) c f) $$ Hrows
  have split : steps = .signal .y :: .signal .x :: .signal .z :: .meet :: (opening ++ (.copy :: (relay ++ [.copied]))) := rfl
  rw [split]
  simp only [run]
  -- the three signals and the wait for the neighbours'
  iapply (step_signal m ρ K c .y (owed c) _ rfl W) $$ [HO Hty Hpy]
  · isplitr; · iexact HR
    isplitl [HO]; · iexact HO
    isplitl [Hty] <;> iassumption
  iintro HO
  iapply (step_signal m ρ K c .x _ _ rfl W) $$ [HO Htx Hpx]
  · isplitr; · iexact HR
    isplitl [HO]; · iexact HO
    isplitl [Htx] <;> iassumption
  iintro HO
  iapply (step_signal m ρ K c .z _ _ rfl W) $$ [HO Htz Hpz]
  · isplitr; · iexact HR
    isplitl [HO]; · iexact HO
    isplitl [Htz] <;> iassumption
  iintro HO
  iapply (step_meet m ρ K c W) $$ [HO HcB HaB]
  · isplitr; · iexact HR
    isplitr; · iexact Hlev
    isplitl [HO]; · iexact HO
    isplitl [HcB] <;> iassumption
  iintro ⟨HO, HaB, HL⟩
  -- the flights across y
  ihave ⟨HS, HV⟩ := (first_state m ρ c) $$ [HaS HaV HtS HtV HL HcV Hxs]
  · unfold flightKit
    isplitl [HaS]; · iexact HaS
    isplitl [HaV]; · iexact HaV
    isplitl [HtS]; · iexact HtS
    isplitl [HtV]; · iexact HtV
    isplitl [HL]; · iexact HL
    isplitl [HcV] <;> iassumption
  iapply (stretch m ρ K c opening _ (0, 0, 0) (8, 0, 0) follow_opening) $$ [HO HS HV]
  · unfold state
    isplitr; · iexact HR
    isplitr; · iexact Hlev
    isplitl [HO]; · iexact HO
    isplitl [HS] <;> iassumption
  iintro Hst
  -- the copy is started
  simp only [run]
  iapply (step_copy m ρ K c f) $$ [Hxr Hown HtC]
  · isplitr; · iexact HR
    isplitl [Hxr]; · iexact Hxr
    isplitl [Hown] <;> iassumption
  iintro HcC
  -- everything is passed on, received and seen off
  iapply (stretch m ρ K c relay _ (8, 0, 0) (32, 32, 32) follow_relay) $$ [Hst]
  · iexact Hst
  unfold state
  rw [show debts c (32, 32, 32).1 = 0 from debts_end c]
  iintro ⟨-, -, ⟨%W', HO⟩, HS, HV⟩
  ihave ⟨HaS, HaV, Hrows, Hxs⟩ := (last_state m ρ c) $$ [HS HV]
  · isplitl [HS] <;> iassumption
  -- the copy is awaited
  simp only [run]
  iapply (step_copied m ρ K c W') $$ [HO HcC HaC]
  · isplitr; · iexact HR
    isplitl [HO]; · iexact HO
    isplitl [HcC] <;> iassumption
  iintro ⟨HO, HaC, Hown, Hxr⟩
  -- the cells are given up
  imod (close_all m ρ K c) $$ [HaB HaC HaS HaV] with Hz
  · isplitr; · iexact HR
    rw [over_cells]
    simp only [kcell, csem, osem]
    isplitl [HaB]; · iexact HaB
    isplitl [HaC]; · iexact HaC
    isplitl [HaS] <;> iassumption
  rw [wp_ret]; imodintro
  iapply Hk
  isplitl [Hz]; · iexact Hz
  isplitl [HO]; · iexact HO
  isplitl [Hxr Hxs Hsp]
  · isplitl [Hxr]; · iexact Hxr
    isplitl [Hxs] <;> iassumption
  rw [out_split]
  isplitl [Hown] <;> iassumption

end Cert.GatherProof

end
-- ==== Proof.Funding.lean ====
/- What the launch deals out before the kernel starts: the credit of every wait, the cells of all semaphores, and each right to
   complete a signal or transfer to the device that makes it. -/
module

public import proofs.«01_k».proof.Proof.Body
public import proofs.«01_k».proof.Proof.Gen.KernelIdeal.Launch
public import Idealize.ShloMosaic.Lib.Pipeline.Launch

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit -/

/-- What device `c` will have waited for from the others by the end. -/
def awaited (c : Dev nD) : CellTallies nD τ sig Unit :=
  tallyAt (barCell c) () 3 + ∑ k : Flight, tallyAt (recvCell c k) () N

/-- Summed over the devices, a tally at the neighbour across an axis is a tally at the device. -/
theorem sum_across (a : Axis) (T : Dev nD → CellTallies nD τ sig Unit) : ∑ d, T (across a d) = ∑ d, T d :=
  Equiv.sum_comp (acrossEquiv a) T

/-- What the devices owe in all is what they will have waited for in all. -/
theorem sum_owed : ∑ d, owed d = ∑ d, awaited d := by
  have h : ∀ d : Dev nD, (tallyAt (barCell d) () 3 : CellTallies nD τ sig Unit)
      = tallyAt (barCell d) () 1 + tallyAt (barCell d) () 1 + tallyAt (barCell d) () 1 := fun d => by
    rw [tallyAt_add, tallyAt_add]
  have hd : ∑ d, debts d 0 = ∑ d : Dev nD, ∑ k : Flight, (tallyAt (recvCell d k) () N : CellTallies nD τ sig Unit) := by
    unfold debts
    rw [Finset.sum_comm, Finset.sum_comm (s := (Finset.univ : Finset (Dev nD))) (t := (Finset.univ : Finset Flight))]
    exact Finset.sum_congr rfl fun k _ => (Finset.sum_congr rfl fun d _ => if_pos (Nat.zero_le _)).trans
      (sum_across k.axis fun d => tallyAt (recvCell d k) () N)
  unfold owed awaited
  rw [Finset.sum_add_distrib, Finset.sum_add_distrib, Finset.sum_add_distrib, Finset.sum_add_distrib, hd,
    Finset.sum_congr rfl fun d _ => h d, Finset.sum_add_distrib, Finset.sum_add_distrib,
    sum_across .z fun d => tallyAt (barCell d) () 1, sum_across .x fun d => tallyAt (barCell d) () 1, sum_across .y fun d => tallyAt (barCell d) () 1]
  rw [add_comm _ (∑ d, ∑ k, tallyAt (recvCell d k) () N), ← add_assoc, ← add_assoc]

/-- A device waits only on its own cells. -/
theorem awaited_own (d : Dev nD) (g : GSem nD τ sig) (h : awaited d g ≠ 0) : g.1 = (d : Thread nD τ) := by
  by_contra hg
  refine h ?_
  unfold awaited
  rw [Pi.add_apply, Finset.sum_apply, tallyAt_ne_cell (g := barCell d) (g' := g) (fun e => hg (congrArg Prod.fst e)), zero_add]
  exact Finset.sum_eq_zero fun k _ => tallyAt_ne_cell (g := recvCell d k) (g' := g) (fun e => hg (congrArg Prod.fst e)) () N

omit [FloatOps F] in
/-- The launch's credit for a device is the credit of its waits. -/
theorem launch_credit (c : Dev nD) : (Pipeline.launchCred owed c : sProp 𝕄) = credits c := by
  rw [Pipeline.launchCred_of_sum owed awaited sum_owed awaited_own c]
  unfold awaited credits
  rw [BI.equiv_iff.mp ⟨(cred_add _ _).1, (cred_add _ _).2⟩, Pipeline.cred_finsetSum]

/-! ## The cells and the rights -/

theorem kcell_injective : Function.Injective (kcell : Dev nD × Cell → GSem nD τ sig) := fun a b h =>
  Prod.ext (congrArg (fun g : GSem nD τ sig => g.1.1) h) (csem_injective (congrArg Prod.snd h))

/-- The right number `j` at device `c`'s own cells: the three duties of its barrier cell, the one of each other cell. -/
abbrev right (cj : Dev nD × (Axis ⊕ Own)) : GSem nD τ sig × ℕ × Axis :=
  match cj.2 with
  | .inl a => (barCell cj.1, 0, a)
  | .inr o => (ownCell cj.1 o, 0, .y)

theorem right_injective : Function.Injective right := by
  have hdev : ∀ cj, (right cj).1.1.1 = cj.1 := by rintro ⟨c, a | o⟩ <;> rfl
  have hsem : ∀ cj, (right cj).1.2 = csem (cj.2.elim (fun _ => .inl ()) .inr) := by rintro ⟨c, a | o⟩ <;> rfl
  rintro ⟨c, j⟩ ⟨c', j'⟩ h
  have hs : (j.elim (fun _ => .inl ()) .inr : Cell) = j'.elim (fun _ => .inl ()) .inr :=
    csem_injective (by rw [← hsem (c, j), ← hsem (c', j'), h])
  refine Prod.ext (by rw [← hdev (c, j), h, hdev]) ?_
  rcases j with a | o <;> rcases j' with a' | o'
  · exact congrArg Sum.inl (congrArg (fun x => x.2.2) h)
  · cases hs
  · cases hs
  · exact congrArg Sum.inr (Sum.inr.inj hs)

/-- All cells of all devices, -/
def allCells : Finset (GSem nD τ sig) := Finset.univ.map ⟨kcell, kcell_injective⟩
/-- and all rights. -/
def allRights : Finset (GSem nD τ sig × ℕ × Axis) := Finset.univ.map ⟨right, right_injective⟩

/-- The rights at device `c`'s own cells. -/
def minted (c : Dev nD) : sProp 𝕄 :=
  iprop((bigSep Finset.univ fun a : Axis => dutyTok ER (barCell c) 0 a) ∗ bigSep Finset.univ fun o : Own => dutyTok ER (ownCell c o) 0 .y)

/-- The rights device `c` uses: its signals', its copy's, its sends', and its sends' arrivals. -/
def dealt (c : Dev nD) : sProp 𝕄 :=
  iprop((bigSep Finset.univ fun a : Axis => dutyTok ER (barCell (across a c)) 0 a) ∗ dutyTok ER (copyCell c) 0 .y
    ∗ (bigSep Finset.univ fun k => dutyTok ER (sendCell c k) 0 .y) ∗ bigSep Finset.univ fun k : Flight => dutyTok ER (recvCell (across k.axis c) k) 0 .y)

omit [FloatOps F] in
/-- Something about each device and each of a family, taken at the device across the member's axis instead. -/
theorem swap_across {I : Type} [Fintype I] [DecidableEq I] (ax : I → Axis) (Φ : Dev nD → I → sProp 𝕄) :
    (bigSep Finset.univ fun c : Dev nD => bigSep Finset.univ fun i => Φ c i)
      = bigSep Finset.univ fun c : Dev nD => bigSep Finset.univ fun i => Φ (across (ax i) c) i := by
  rw [Pipeline.bigSep_univ_comm, Pipeline.bigSep_univ_comm (fun (c : Dev nD) i => Φ (across (ax i) c) i)]
  exact bigSep_congr fun i _ => bigSep_univ_equiv (acrossEquiv (ax i)) fun c => Φ c i

omit [FloatOps F] in
/-- All rights minted are all rights dealt. -/
theorem deal : (bigSep Finset.univ fun c : Dev nD => (minted c : sProp 𝕄)) = bigSep Finset.univ fun c => dealt c := by
  have hown (c : Dev nD) : (bigSep Finset.univ fun o : Own => (dutyTok ER (ownCell c o) 0 .y : sProp 𝕄))
      = iprop(dutyTok ER (copyCell c) 0 .y ∗ (bigSep Finset.univ fun k => dutyTok ER (sendCell c k) 0 .y)
          ∗ bigSep Finset.univ fun k => dutyTok ER (recvCell c k) 0 .y) := by
    rw [bigSep_univ_sum, bigSep_univ_sum, Finset.univ_unique, bigSep_singleton]; rfl
  unfold minted dealt
  simp only [bigSep_sep', hown]
  rw [swap_across (fun a : Axis => a) fun c a => (dutyTok ER (barCell c) 0 a : sProp 𝕄),
    swap_across Flight.axis fun c k => (dutyTok ER (recvCell c k) 0 .y : sProp 𝕄)]

/-- The ghost state at launch: the pipeline's and the rounds'. -/
def u₀ : UU :=
  (initOf (Pipeline.cells cfgs cellOf_inj) (Pipeline.launchToks cfgs cellOf_inj), initOf allCells allRights)

/-- What device `c` is given of it. -/
def share (c : Dev nD) : sProp 𝕄 :=
  iprop((bigSep Finset.univ fun k : Cell => roundState ER (sched m ρ) (kcell (c, k)) 0)
    ∗ (bigSep Finset.univ fun k : Cell => atPos ER (kcell (c, k)) 0 ∅ 0) ∗ (bigSep Finset.univ fun k : Cell => reached ER (kcell (c, k)) 0) ∗ minted c)

omit [FloatOps F] in
/-- The rounds' ghost state is all devices' shares. -/
theorem fund_rounds : BI.own (ER (initOf allCells allRights)) ⊢ (|==> bigSep Finset.univ (share m ρ) : sProp 𝕄) := by
  have hc (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hr : bigSep allRights (fun x => (dutyTok ER x.1 x.2.1 x.2.2 : sProp 𝕄)) = bigSep Finset.univ fun c : Dev nD => minted c := by
    unfold allRights minted; rw [bigSep_map, bigSep_univ_prod]
    exact bigSep_congr fun c _ => by rw [bigSep_univ_sum]; rfl
  refine BI.Entails.trans (Rounds.fund ER (sched m ρ) allCells allRights) (BI.bupd_mono ?_)
  unfold share
  rw [hc, hc, hc, hr]
  simp only [bigSep_sep']
  show (_ : sProp 𝕄) ⊢ _
  iintro ⟨Hst, Hr, Hat, Ht⟩
  isplitl [Hst]; · iexact Hst
  isplitl [Hat]; · iexact Hat
  isplitl [Hr] <;> iassumption

theorem ownSemFacts : Pipeline.OwnSemFacts cfg0.spec osem := by decide +kernel

omit [FloatOps F] in
/-- The barrier is the only semaphore that outlives the kernel. -/
theorem barrier_sem (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores are the barrier and its own. -/
theorem closed_eq (c : Dev nD) :
    (closed c : sProp 𝕄) = iprop(unscopedSems0 c ∗ Pipeline.ownSems0 (Ix := Unit) (Name := ℕ) (U := UU) (Lvl := ℕ) (Val := Elt F) (τ := τ) osem c) := by
  unfold closed Pipeline.ownSems0
  rw [barrier_sem, bigSep_univ_sum, Finset.univ_unique, bigSep_singleton]; rfl

omit [FloatOps F] in
/-- A device's semaphores at zero with its share become cells under invariants. -/
theorem make_cells (c : Dev nD) :
    iprop(Pipeline.ownSems0 (Ix := Unit) (Name := ℕ) (U := UU) (Lvl := ℕ) (Val := Elt F) (τ := τ) osem c ∗ unscopedSems0 c ∗ share m ρ c)
      ⊢ |={Set.univ}=> iprop((bigSep Finset.univ fun k : Cell => iprop(∃ κ : ℕ, cellInv ER (sched m ρ) κ (kcell (c, k))))
          ∗ (bigSep Finset.univ fun k : Cell => reached ER (kcell (c, k)) 0)
          ∗ (bigSep Finset.univ fun k : Cell => atPos ER (kcell (c, k)) 0 ∅ 0) ∗ minted c) := by
  have hinv : iprop(closed c ∗ bigSep Finset.univ fun k : Cell => roundState ER (sched m ρ) (kcell (c, k)) 0)
      ⊢ (|={Set.univ}=> bigSep Finset.univ fun k : Cell => iprop(∃ κ : ℕ, cellInv ER (sched m ρ) κ (kcell (c, k))) : sProp 𝕄) := by
    unfold closed
    rw [← bigSep_sep']
    exact BI.Entails.trans (bigSep_mono fun k _ => BI.Entails.trans (Rounds.body_intro ER (sched m ρ) (kcell (c, k))) inv_alloc) (bigSep_fupd _ _)
  unfold share
  iintro ⟨Hos, Hus, Hst, Hat, Hr, Ht⟩
  imod hinv $$ [Hos Hus Hst] with HI
  · rw [closed_eq]
    isplitr [Hst]
    · isplitl [Hus] <;> iassumption
    iexact Hst
  imodintro
  isplitl [HI]; · iexact HI
  isplitl [Hr]; · iexact Hr
  isplitl [Hat] <;> iassumption

/-- What a device starts with of the ghost state: its kit, at some names of the invariants. -/
def kitted (c : Dev nD) : sProp 𝕄 := iprop(∃ K, kit m ρ K c)

omit [FloatOps F] in
/-- The records of all devices go to every device, each right to the device that uses it. -/
theorem hand_out :
    (bigSep Finset.univ fun c : Dev nD => iprop((bigSep Finset.univ fun k : Cell => iprop(∃ κ : ℕ, cellInv ER (sched m ρ) κ (kcell (c, k))))
          ∗ (bigSep Finset.univ fun k : Cell => reached ER (kcell (c, k)) 0)
          ∗ (bigSep Finset.univ fun k : Cell => atPos ER (kcell (c, k)) 0 ∅ 0) ∗ minted c) : sProp 𝕄)
      ⊢ bigSep Finset.univ (kitted m ρ) := by
  rw [bigSep_sep', bigSep_sep', bigSep_sep', deal, ← bigSep_sep',
    ← bigSep_univ_prod (fun ck : Dev nD × Cell => iprop(∃ κ : ℕ, cellInv ER (sched m ρ) κ (kcell ck))),
    ← bigSep_univ_prod (fun ck : Dev nD × Cell => (reached ER (kcell ck) 0 : sProp 𝕄))]
  iintro ⟨HI, #HR, Hrest⟩
  ihave HK := (BI.bigSep_exists_pi Finset.univ (fun (ck : Dev nD × Cell) (κ : ℕ) => (cellInv ER (sched m ρ) κ (kcell ck) : sProp 𝕄))) $$ HI
  icases HK with ⟨%K, #HK⟩
  iapply (BI.bigSep_with_persistent (R := records m ρ K)
    (Φ := fun c : Dev nD => iprop((bigSep Finset.univ fun k : Cell => atPos ER (kcell (c, k)) 0 ∅ 0) ∗ dealt c)) fun c _ => by
      show (_ : sProp 𝕄) ⊢ _
      unfold kitted kit dealt
      iintro H
      iexists K
      iexact H)
  isplitr
  · unfold records
    isplitr; · iexact HK
    iexact HR
  iexact Hrest

omit [FloatOps F] in
/-- From all semaphores at zero and all shares, every device has its kit. -/
theorem set_up : (bigSep Finset.univ fun c => iprop(Pipeline.ownSems0 (Ix := Unit) (Name := ℕ) (U := UU) (Lvl := ℕ) (Val := Elt F) (τ := τ) osem c
      ∗ unscopedSems0 c ∗ share m ρ c) : sProp 𝕄)
    ⊢ |={Set.univ}=> bigSep Finset.univ (kitted m ρ) :=
  BI.Entails.trans (BI.Entails.trans (bigSep_mono fun c _ => make_cells m ρ c) (bigSep_fupd _ _)) (BI.fupd_mono (hand_out m ρ))

end Cert.GatherProof

end
-- ==== Proof.Launch.lean ====
/- The launch: the kernel's one region on every device, and the memory it leaves. -/
module

public import proofs.«01_k».proof.Proof.Funding
public import Idealize.ShloMosaic.Lib.Quiescent
public import Idealize.ShloMosaic.Lib.Pipeline.CollectiveSegs
public import Idealize.ShloMosaic.Adequacy

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region on one device -/

/-- What device `c` enters the region with, beyond its buffers. -/
def start (c : Dev nD) : sProp 𝕄 := iprop(kitted m ρ c ∗ credits (F := F) c ∗ levAts L lv)

/-- The region: the arrays of both windows, what the staging buffers hold after the body, and what the device holds and owes before
    and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => result m ρ c
  Φ t := match t with
    | ⟨0, _⟩ => start m ρ c
    | ⟨_ + 1, _⟩ => closed c
  q _ := fullShare
  owed t := match t with
    | ⟨0, _⟩ => owed c
    | ⟨_ + 1, _⟩ => 0

/-- Buffer `b` of device `c` whole, holding `X`. -/
def holds (c : Dev nD) (b : Ref sig .tc) (X : b.ty.Contents (Elt F)) : sProp 𝕄 :=
  iprop(∃ f, ⌜f = X⌝ ∗ ((c : Thread nD τ).loc b ↦{fullShare} f))

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns holds; simp only [Memref.view_whole, View.read_whole, View.set_whole]

/-- What the body is given, -/
def bodyPre (c : Dev nD) : sProp 𝕄 :=
  iprop(start m ρ c ∗ (dats m ρ 0 c).owesAt () t0_0.castSucc
    ∗ (∃ d, holds c cc0_stg0_0 ((dats m ρ 0 c).before (0 : Fin 2) t0_0 d))
    ∗ (∃ d, holds c cc0_stg1_0 ((dats m ρ 0 c).before (1 : Fin 2) t0_0 d)))

/-- and what it leaves. -/
def bodyPost (c : Dev nD) : sProp 𝕄 :=
  iprop(closed c ∗ (dats m ρ 0 c).owesAt () t0_0.succ ∗ holds c cc0_stg0_0 (xstg m ρ c) ∗ holds c cc0_stg1_0 (result m ρ c))

set_option maxRecDepth 4000 in
/-- The input is staged when the body starts. -/
theorem staged (c : Dev nD) (d : (cc0_stg0_0 : Ref sig .tc).ty.Contents (Elt F)) : (dats m ρ 0 c).before (0 : Fin 2) t0_0 d = xstg m ρ c := by
  unfold Dat.before
  rw [if_pos (show (cfg0.win (0 : Fin 2)).fetch t0_0 = true by decide)]
  rfl

set_option maxRecDepth 40000 in
/-- The body does what the region asks of it. -/
theorem body_met (c : Dev nD) : BodyObligation (dats (F := F) m ρ 0 c) (defs₀ (F := F)) 𝒱₀ () Set.univ := fun t => by
  rw [fin_N0 t, bigSep_W0, bigSep_W0]
  simp only [owns_whole]
  show bodyPre m ρ c ⊢ wp frame (wpE (defs₀ (F := F)) 𝒱₀ c none) Set.univ
    (cc0_body xM (Memref.isWhole_whole _) oM (Memref.isWhole_whole _) cc0_scratch0 cc0_scratch1 cc0_scratch2 cc0_scratch3 cc0_scratch4
      cc0_scratch5 cc0_scratch6 cc0_scratch7 cc0_scratch8 cc0_scratch9 cc0_scratch10) (fun _ => bodyPost m ρ c)
  rw [body_eq, wp_deviceId]
  unfold bodyPre start kitted Dat.owesAt Pipeline.owesWithin holds
  iintro ⟨⟨⟨%K, Hkit⟩, Hcr, Hlev⟩, ⟨%W, %hW, HO⟩, ⟨%d, %fx, %hx, Hx⟩, ⟨%d', %fo, %ho, Ho⟩⟩
  rw [staged] at hx
  subst hx
  rw [show (dats m ρ 0 c).owed t0_0.castSucc = owed c from rfl]
  iapply (whole_body m ρ K c fo W fun _ => bodyPost m ρ c)
  isplitl [Hkit]; · iexact Hkit
  isplitl [Hcr]; · iexact Hcr
  isplitl [Hlev]; · iexact Hlev
  isplitl [HO]; · iexact HO
  isplitl [Hx]; · iexact Hx
  isplitl [Ho]; · iexact Ho
  unfold bodyPost Dat.owesAt Pipeline.owesWithin holds
  rw [show (dats m ρ 0 c).owed t0_0.succ = 0 from rfl]
  iintro ⟨Hz, ⟨%W', HO⟩, Hx, Ho⟩
  isplitl [Hz]; · iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## The launch -/

theorem share_eq (c : Dev nD) (w : Fin cfg0.W) : (dats m ρ 0 c).share w = fullShare := by unfold Dat.share; split <;> rfl

omit [FloatOps F] in
/-- What the launch gives a device is what it starts from; -/
theorem enter (c : Dev nD) :
    iprop(Pipeline.unscopedRestP Pipeline.Prefetch.none cfg0.spec c (fun b => m ((c : Thread nD τ).loc b)) ∗ levAts L lv
        ∗ Pipeline.launchCred owed c ∗ prngReg c (ρ c) ∗ kitted m ρ c)
      ⊢ |={Set.univ}=> iprop(start m ρ c ∗ emp) := by
  rw [launch_credit]
  unfold start
  iintro ⟨-, Hlev, Hcr, -, HK⟩
  imodintro
  isplitl
  · isplitl [HK]; · iexact HK
    isplitl [Hcr] <;> iassumption
  · iempintro

/-- there is nothing more to enter the region with; -/
theorem begin_region (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

/-- and it leaves all semaphores at zero. -/
theorem end_region (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = closed c from rfl, scopedRest0_eq, closed_eq]
  iintro ⟨Hu, Ho⟩
  isplitl [Hu]; · iexact Hu
  isplitl [Ho]; · iexact Ho
  iempintro

/-- The region's own waits, on the semaphores of its two copies, are below all that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

/-- What array `w` of device `c` holds in the end. -/
def final (c : Dev nD) (w : Fin cfg0.W) : Buf (Elt F) ((cfg0.win w).arr.view.loc (c : Thread nD τ)) := (dats m ρ 0 c).arrAt w cfg0.N

set_option maxRecDepth 8000 in
/-- From any memory with all counters at zero, every fair run of the 16 devices ends, with each device's input and result arrays at their
    final contents and every counter at zero. -/
theorem run_main : θ_run defs (onTc (τ := τ) (main (F := F))) (s₀ m ρ)
    (fun r => (∀ (c : Dev nD) (w : Fin cfg0.W), r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_met m ρ) (hne := fun w => by fin_cases w <;> exact Nat.succ_pos _) (harr := arr_whole0) (hstage := stage_whole0) (hshare := share_eq m ρ)
    (hdistinct := winFacts0.arr_inj)
    (O₀ := owed) (howed₀ := fun _ => rfl) (howedN := fun _ => rfl)
    (L := L) (lv := lv) (hL := L_of_ne) (hwaits := waits m ρ)
    (G := share m ρ) (G' := kitted m ρ) (u₀ := u₀)
    (hu₀ := by
      unfold u₀
      iintro Hu
      ihave H := (ownU_pair _ _) $$ Hu
      icases H with ⟨HP, HX⟩
      imod (fund_rounds m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := enter m ρ) (hin := begin_region m ρ) (hout := end_region m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final contents -/

/-- The staged input is the whole input array. -/
theorem staged_input (c : Dev nD) : xstg m ρ c = m ((c : Thread nD τ).loc main_arg0) := by
  unfold xstg s₀
  exact Memref.read_access_unit_zero (Elt F) main_arg0 (funext fun a => by fin_cases a <;> decide) (fun a => by fin_cases a <;> decide) _

/-- The input array is as it was. -/
theorem final_input (c : Dev nD) : final m ρ c (0 : Fin 2) = m ((c : Thread nD τ).loc main_arg0) :=
  (dats (F := F) m ρ 0 c).arrAt_in (0 : Fin 2) rfl _

/-- The result array holds the finished result. -/
theorem final_result (c : Dev nD) : final m ρ c (1 : Fin 2) = result m ρ c := by
  have hread := fun f => Memref.read_access_unit_zero (Elt F) main_v1 (off := fun a => win0_1.index (0 : Fin 1) a * main_v1.ty.shape.size a)
    (funext fun a => by fin_cases a <;> decide) (fun a => by fin_cases a <;> decide) f
  refine (hread _).symm.trans ?_
  unfold final
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

end Cert.GatherProof

end
-- ==== Proof.Same.lean ====
/- The kernel and its ideal reading are one text, so a run of the one is a run of the other. -/
module

public import proofs.«01_k».proof.Proof.Gen.Kernel
public import proofs.«01_k».proof.Proof.Gen.KernelIdeal

@[expose] public section

namespace Cert.GatherProof

open Idealize.ShloMosaic

variable {F : FTy → Type} [FloatOps F]

set_option maxRecDepth 20000 in
/-- The two programs' one kernel is the same; -/
theorem same_body : Cert.Kernel.defs₀ (F := F) = Cert.KernelIdeal.defs₀ (F := F) := by
  refine congrArg Defs.onTc (funext fun ℓ => funext fun a => ?_)
  match ℓ, a with
  | ⟨0, _⟩, (_, _) => rfl

/-- so are their calls. -/
theorem same_defs : Cert.Kernel.defs (F := F) = Cert.KernelIdeal.defs (F := F) :=
  congrArg (Pipeline.defs Cert.KernelIdeal.pcfgs) same_body

end Cert.GatherProof
-- ==== Proof.Value.lean ====
/- The value: when the devices' inputs are the blocks of one array, cut in two along the mesh's y axis, every device's result is
   that array. -/
module

public import proofs.«01_k».proof.Proof.Contents
public import Idealize.ShloMosaic.Lib.Layout

@[expose] public section

noncomputable section

namespace Cert.GatherProof

open Cert.KernelIdeal
open Idealize.ShloMosaic

variable {Val : EltTy → Type}

/-- The part of a whole array, cut in two by rows along the mesh's y axis, that device `d` holds. -/
abbrev part (d : Dev nD) : (b : Fin S2048x512.rank) → Fin (Layout.cutSize [2, 2, 4] ((![[1], []] : Fin 2 → List ℕ) b)) :=
  Layout.meshBlock [2, 2, 4] ![[1], []] d

/-- By rows it is the half that the device's y coordinate names; -/
theorem part_row (d : Dev nD) : (part d (0 : Fin 2)).val = yOf d := by revert d; decide +kernel

/-- by columns it is the whole. -/
theorem part_col (d : Dev nD) : (part d (1 : Fin 2)).val = 0 := by revert d; decide +kernel

/-- The row and column of the input that an element of the result comes from lie, in the whole array, where the element lies. -/
theorem placed (h : Layout.TilesN S2048x512 S4096x512 (fun b => Layout.cutSize [2, 2, 4] ((![[1], []] : Fin 2 → List ℕ) b)))
    (c : Dev nD) (i : S4096x512.Idx) : h.idx (part (org c ((i 0).val / 64))) (toIn i) = i := by
  have hi : (i 0).val < 4096 := (i 0).isLt
  have hy : yOf (org c ((i 0).val / 64)) = (i 0).val / 64 / 32 := yOf_org c ⟨(i 0).val / 64, by omega⟩
  have hrow : (part (org c ((i 0).val / 64)) (0 : Fin 2)).val * 2048 + (i 0).val % 2048 = (i 0).val := by
    rw [part_row, hy]; omega
  have hcol : (part (org c ((i 0).val / 64)) (1 : Fin 2)).val * 512 + (i 1).val = (i 1).val := by
    rw [part_col, Nat.zero_mul, Nat.zero_add]
  refine funext fun b => Fin.ext ?_
  rw [Layout.TilesN.idx_val]
  match b with
  | ⟨0, _⟩ => exact hrow
  | ⟨1, _⟩ => exact hcol

/-- Every device gathers the whole array. -/
theorem gathered_whole (X : Dev nD → (cc0_stg0_0 : Ref sig .tc).ty.Contents Val) (A : S4096x512.Idx → Val .f32)
    (hX : ∀ d : Dev nD, X d = Layout.blockN ⟨2, ![2048, 512]⟩ ⟨2, ![4096, 512]⟩ (Layout.meshBlock [2, 2, 4] ![[1], []] d) A) (c : Dev nD) :
    gathered X c = A := by
  funext i
  show X (org c ((i 0).val / 64)) (toIn i) = A i
  rw [hX, Layout.blockN_apply]
  exact congrArg A (placed _ c i)

end Cert.GatherProof

end
-- ==== Proof.Reference.lean ====
/- The reference on its one device: the program returns its argument. -/
module

public import proofs.«01_k».proof.Proof.Gen.ReferenceIdeal
public import Idealize.ShloMosaic.Lib.StableHlo.Run
public import Idealize.ShloMosaic.Lib.Quiescent

@[expose] public section

noncomputable section

namespace Cert.ReferenceProof

open Cert.ReferenceIdeal
open Idealize.ShloMosaic Idealize.ShloMosaic.TcCoe Idealize.SL.Sem

variable {F : FTy → Type} [FloatOps F]

/-- Every run of the reference ends, with all buffers as they were and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = m ((c.tc : Thread nD τ).loc b)) ∧ r.2.sem = fun _ => 0 :=
  (θ_run defs _ _).mono (fun r h => ⟨fun c b => h c b, sem_eq_zero_of_no_sems (by decide) r.2⟩)
    (StableHlo.run_seq (by decide) (by decide) defs main (fun _ => []) (fun _ => rfl) (fun _ => trivial) m ρ)

end Cert.ReferenceProof

end
-- ==== Proof.lean ====
/- The five claims: the kernel, its ideal reading and the reference run and end quiet; the ideal reading is the kernel's own
   text; and on inputs that are the blocks of one array every device's result is that array, which the reference returns. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Same
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The kernel at the machine's floats: it runs, its inputs end unchanged and every counter at zero. Its text is that of the ideal
    program, whose run is proved for any float values. -/
theorem frame_kernel : Cert.quiescent_Kernel := by
  intro m ρ _
  rw [Cert.GatherProof.same_defs]
  exact (θ_run Cert.KernelIdeal.defs _ _).mono
    (fun _ h => ⟨fun c => (h.1 c (0 : Fin 2)).trans (Cert.GatherProof.final_input m ρ c), h.2⟩) (Cert.GatherProof.run_main (F := Bits) m ρ)

/-- The same of the kernel over the extended reals. -/
theorem frame_ideal : Cert.quiescent_KernelIdeal := fun m ρ _ =>
  (θ_run Cert.KernelIdeal.defs _ _).mono
    (fun _ h => ⟨fun c => (h.1 c (0 : Fin 2)).trans (Cert.GatherProof.final_input m ρ c), h.2⟩) (Cert.GatherProof.run_main (F := Ideal) m ρ)

/-- The same of the reference. -/
theorem frame_reference : Cert.quiescent_ReferenceIdeal := fun m ρ _ =>
  (θ_run Cert.ReferenceIdeal.defs _ _).mono (fun _ h => ⟨fun c => h.1 c Cert.ReferenceIdeal.main_arg0, h.2⟩)
    (Cert.ReferenceProof.run_main (F := Ideal) m ρ)

/-- Every device ends with the whole array of which each holds a half: the array the reference returns. -/
theorem value : Cert.algebraic_KernelIdeal_ReferenceIdeal := fun m ρ m' ρ' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨((h.1 c (1 : Fin 2)).trans (Cert.GatherProof.final_result m ρ c)).trans
          (Cert.GatherProof.gathered_whole (Val := Elt Ideal) _ _ (fun d => (Cert.GatherProof.staged_input m ρ d).trans (hm d)) c),
        (h.1 c (0 : Fin 2)).trans (Cert.GatherProof.final_input m ρ c)⟩)
      (Cert.GatherProof.run_main (F := Ideal) m ρ),
    (θ_run Cert.ReferenceIdeal.defs _ _).mono (fun _ h => ⟨h.1 0 Cert.ReferenceIdeal.main_arg0, h.1 0 Cert.ReferenceIdeal.main_arg0⟩)
      (Cert.ReferenceProof.run_main (F := Ideal) m' ρ')⟩

/-- All five. -/
theorem claim : Cert.Claim :=
  ⟨Cert.Kernel.Gen.facts, Cert.KernelIdeal.Gen.facts, Cert.ReferenceIdeal.Gen.facts,
    frame_kernel, frame_ideal, frame_reference, trivial, value⟩

end Cert.Proof

end
